-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_Reference (m : (ℓ : Loc Cert.Reference.nD Cert.Reference.τ Cert.Reference.sig) → Buf (Elt Bits) ℓ) : Prop :=
  True

def Pre_Reference_in_range [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Reference_pre_in_range [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference_in_range m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v1)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v1) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v6) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_Reference (hReference := hReference)
    ∧ quiescent_Reference_pre_in_range (hReference := hReference) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S16384 : Shape := ⟨1, ![16384]⟩
abbrev S1000000x64 : Shape := ⟨2, ![1000000, 64]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : IVec S16384 32) (main_arg1 : FVec F S1000000x64 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 1 := constantI S_ 1 1#1
  let main_v2 : IVec S_ 1 := (fun x v => Host.reduce IntOp.andi x v reducesTo_S16384_S_d0 h_S_) main_v1 main_c_0
  main_v2
-- ==== Kernel.lean ====
abbrev S16384 : Shape := ⟨1, ![16384]⟩
abbrev S1000000x64 : Shape := ⟨2, ![1000000, 64]⟩
abbrev S125000x8x64 : Shape := ⟨3, ![125000, 8, 64]⟩
abbrev S16384x64 : Shape := ⟨2, ![16384, 64]⟩
abbrev S512 : Shape := ⟨1, ![512]⟩
abbrev S528 : Shape := ⟨1, ![528]⟩
abbrev S512x64 : Shape := ⟨2, ![512, 64]⟩
abbrev S16 : Shape := ⟨1, ![16]⟩
abbrev S_ : Shape := ⟨0, ![]⟩
abbrev S1 : Shape := ⟨1, ![1]⟩
abbrev S1x64 : Shape := ⟨2, ![1, 64]⟩
abbrev S64 : Shape := ⟨1, ![64]⟩
abbrev S1x1x64 : Shape := ⟨3, ![1, 1, 64]⟩

abbrev nBuf : Table → Nat
  | .hbm => 4
  | .local .scVector .vmem => 5
  | _ => 0

abbrev bufTy : (tb : Table) → Fin (nBuf tb) → BufTy
  | .hbm, ⟨0, _⟩ => ⟨S16384, .i32⟩
  | .hbm, ⟨1, _⟩ => ⟨S1000000x64, .f32⟩
  | .hbm, ⟨2, _⟩ => ⟨S125000x8x64, .f32⟩
  | .hbm, ⟨3, _⟩ => ⟨S16384x64, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S528, .i32⟩
  | .local .scVector .vmem, ⟨4, _⟩ => ⟨S512x64, .f32⟩
  | _, _ => ⟨S16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_1 : BitVec 32 := 0#32
  let c32_i32 : BitVec 32 := 32#32
  let v6 : BitVec 32 := Scalar.addi c0_i32_1 c32_i32
  let c1_i32_2 : BitVec 32 := 1#32
  ⟨c0_i32_1, v6, c1_i32_2⟩
def k0_off2 (k0_t1 : Fin k0_t1_loop.trips) : Fin 1 → Nat :=
  let c0_i32_1 : BitVec 32 := 0#32
  let c1_i32_2 : BitVec 32 := 1#32
  let arg11 : BitVec 32 := Scf.iv c0_i32_1 c1_i32_2 k0_t1
  let c16_i32_27 : BitVec 32 := 16#32
  let v35 : BitVec 32 := Scalar.muli arg11 c16_i32_27
  let v36 : Index := Scalar.indexCast v35
  ![v36.toNat]

def k0_chk1 (v60 : IVec S16 32) : Prop :=
  (∀ a x, ((![v60] : Fin 1 → IVec S16 32) a x).toNat < S528.size a)
theorem k0_idx1_inb : ∀ (v60 : IVec S16 32) (k0_hw1 : k0_chk1 v60), ∀ a x, ((![v60] : Fin 1 → IVec S16 32) a x).toNat < S528.size a := fun v60 k0_hw1 => k0_hw1
@[reducible] def k0_t2_loop : Scf.Loop 32 :=
  let c0_i32_5 : BitVec 32 := 0#32
  let c32_i32_6 : BitVec 32 := 32#32
  let v8 : BitVec 32 := Scalar.addi c0_i32_5 c32_i32_6
  let c1_i32_7 : BitVec 32 := 1#32
  ⟨c0_i32_5, v8, c1_i32_7⟩
def k0_off3 (k0_t2 : Fin k0_t2_loop.trips) : Fin 1 → Nat :=
  let c0_i32_5 : BitVec 32 := 0#32
  let c1_i32_7 : BitVec 32 := 1#32
  let arg11 : BitVec 32 := Scf.iv c0_i32_5 c1_i32_7 k0_t2
  let c16_i32_27 : BitVec 32 := 16#32
  let v35 : BitVec 32 := Scalar.muli arg11 c16_i32_27
  let v36 : Index := Scalar.indexCast v35
  ![v36.toNat]
def k0_off4 (k0_t2 : Fin k0_t2_loop.trips) : Fin 2 → Nat :=
  let c0_i32_5 : BitVec 32 := 0#32
  let c1_i32_7 : BitVec 32 := 1#32
  let arg11 : BitVec 32 := Scf.iv c0_i32_5 c1_i32_7 k0_t2
  let c16_i32_29 : BitVec 32 := 16#32
  let v45 : BitVec 32 := Scalar.muli arg11 c16_i32_29
  let c0_i32_30 : BitVec 32 := 0#32
  let v46 : BitVec 32 := Scalar.addi v45 c0_i32_30
  let c0_i32_32 : BitVec 32 := 0#32
  ![v46.toNat, 0]
def k0_off5 (v42 : BitVec 32) (v44 : BitVec 32) : Fin 3 → Nat :=
  let c0_i32_33 : BitVec 32 := 0#32
  ![v42.toNat, v44.toNat, 0]

def k0_chk2 (v42 : BitVec 32) (v44 : BitVec 32) : Prop :=
  (∀ a, (k0_off5 v42 v44) a + S1x1x64.size a ≤ S125000x8x64.size a)
theorem k0_off5_inb : ∀ (v42 : BitVec 32) (v44 : BitVec 32) (k0_hw2 : k0_chk2 v42 v44), ∀ a, (k0_off5 v42 v44) a + S1x1x64.size a ≤ S125000x8x64.size a := fun v42 v44 k0_hw2 => k0_hw2

def k0_off6 (k0_t2 : Fin k0_t2_loop.trips) (c0_i32_30 : BitVec 32) : Fin 2 → Nat :=
  let c0_i32_5 : BitVec 32 := 0#32
  let c1_i32_7 : BitVec 32 := 1#32
  let arg11 : BitVec 32 := Scf.iv c0_i32_5 c1_i32_7 k0_t2
  let c16_i32_29 : BitVec 32 := 16#32
  let v45 : BitVec 32 := Scalar.muli arg11 c16_i32_29
  let v46 : BitVec 32 := Scalar.addi v45 c0_i32_30
  let c0_i32_34 : BitVec 32 := 0#32
  ![v46.toNat, 0]
def k0_off7 (v58 : BitVec 32) (v60 : BitVec 32) : Fin 3 → Nat :=
  let c0_i32_40 : BitVec 32 := 0#32
  ![v58.toNat, v60.toNat, 0]

def k0_chk3 (v58 : BitVec 32) (v60 : BitVec 32) : Prop :=
  (∀ a, (k0_off7 v58 v60) a + S1x1x64.size a ≤ S125000x8x64.size a)
theorem k0_off7_inb : ∀ (v58 : BitVec 32) (v60 : BitVec 32) (k0_hw3 : k0_chk3 v58 v60), ∀ a, (k0_off7 v58 v60) a + S1x1x64.size a ≤ S125000x8x64.size a := fun v58 v60 k0_hw3 => k0_hw3

def k0_off8 (k0_t2 : Fin k0_t2_loop.trips) (c1_i32_37 : BitVec 32) : Fin 2 → Nat :=
  let c0_i32_5 : BitVec 32 := 0#32
  let c1_i32_7 : BitVec 32 := 1#32
  let arg11 : BitVec 32 := Scf.iv c0_i32_5 c1_i32_7 k0_t2
  let c16_i32_36 : BitVec 32 := 16#32
  let v61 : BitVec 32 := Scalar.muli arg11 c16_i32_36
  let v62 : BitVec 32 := Scalar.addi v61 c1_i32_37
  let c0_i32_41 : BitVec 32 := 0#32
  ![v62.toNat, 0]
def k0_off9 (v74 : BitVec 32) (v76 : BitVec 32) : Fin 3 → Nat :=
  let c0_i32_47 : BitVec 32 := 0#32
  ![v74.toNat, v76.toNat, 0]

def k0_chk4 (v74 : BitVec 32) (v76 : BitVec 32) : Prop :=
  (∀ a, (k0_off9 v74 v76) a + S1x1x64.size a ≤ S125000x8x64.size a)
theorem k0_off9_inb : ∀ (v74 : BitVec 32) (v76 : BitVec 32) (k0_hw4 : k0_chk4 v74 v76), ∀ a, (k0_off9 v74 v76) a + S1x1x64.size a ≤ S125000x8x64.size a := fun v74 v76 k0_hw4 => k0_hw4

def k0_off10 (k0_t2 : Fin k0_t2_loop.trips) (c2_i32_44 : BitVec 32) : Fin 2 → Nat :=
  let c0_i32_5 : BitVec 32 := 0#32
  let c1_i32_7 : BitVec 32 := 1#32
  let arg11 : BitVec 32 := Scf.iv c0_i32_5 c1_i32_7 k0_t2
  let c16_i32_43 : BitVec 32 := 16#32
  let v77 : BitVec 32 := Scalar.muli arg11 c16_i32_43
  let v78 : BitVec 32 := Scalar.addi v77 c2_i32_44
  let c0_i32_48 : BitVec 32 := 0#32
  ![v78.toNat, 0]
def k0_off11 (v90 : BitVec 32) (v92 : BitVec 32) : Fin 3 → Nat :=
  let c0_i32_53 : BitVec 32 := 0#32
  ![v90.toNat, v92.toNat, 0]

def k0_chk5 (v90 : BitVec 32) (v92 : BitVec 32) : Prop :=
  (∀ a, (k0_off11 v90 v92) a + S1x1x64.size a ≤ S125000x8x64.size a)
theorem k0_off11_inb : ∀ (v90 : BitVec 32) (v92 : BitVec 32) (k0_hw5 : k0_chk5 v90 v92), ∀ a, (k0_off11 v90 v92) a + S1x1x64.size a ≤ S125000x8x64.size a := fun v90 v92 k0_hw5 => k0_hw5

def k0_off12 (k0_t2 : Fin k0_t2_loop.trips) (c3_i32 : BitVec 32) : Fin 2 → Nat :=
  let c0_i32_5 : BitVec 32 := 0#32
  let c1_i32_7 : BitVec 32 := 1#32
  let arg11 : BitVec 32 := Scf.iv c0_i32_5 c1_i32_7 k0_t2
  let c16_i32_50 : BitVec 32 := 16#32
  let v93 : BitVec 32 := Scalar.muli arg11 c16_i32_50
  let v94 : BitVec 32 := Scalar.addi v93 c3_i32
  let c0_i32_54 : BitVec 32 := 0#32
  ![v94.toNat, 0]
def k0_off13 (v106 : BitVec 32) (v108 : BitVec 32) : Fin 3 → Nat :=
  let c0_i32_59 : BitVec 32 := 0#32
  ![v106.toNat, v108.toNat, 0]

def k0_chk6 (v106 : BitVec 32) (v108 : BitVec 32) : Prop :=
  (∀ a, (k0_off13 v106 v108) a + S1x1x64.size a ≤ S125000x8x64.size a)
theorem k0_off13_inb : ∀ (v106 : BitVec 32) (v108 : BitVec 32) (k0_hw6 : k0_chk6 v106 v108), ∀ a, (k0_off13 v106 v108) a + S1x1x64.size a ≤ S125000x8x64.size a := fun v106 v108 k0_hw6 => k0_hw6

def k0_off14 (k0_t2 : Fin k0_t2_loop.trips) (c4_i32 : BitVec 32) : Fin 2 → Nat :=
  let c0_i32_5 : BitVec 32 := 0#32
  let c1_i32_7 : BitVec 32 := 1#32
  let arg11 : BitVec 32 := Scf.iv c0_i32_5 c1_i32_7 k0_t2
  let c16_i32_56 : BitVec 32 := 16#32
  let v109 : BitVec 32 := Scalar.muli arg11 c16_i32_56
  let v110 : BitVec 32 := Scalar.addi v109 c4_i32
  let c0_i32_60 : BitVec 32 := 0#32
  ![v110.toNat, 0]
def k0_off15 (v122 : BitVec 32) (v124 : BitVec 32) : Fin 3 → Nat :=
  let c0_i32_65 : BitVec 32 := 0#32
  ![v122.toNat, v124.toNat, 0]

def k0_chk7 (v122 : BitVec 32) (v124 : BitVec 32) : Prop :=
  (∀ a, (k0_off15 v122 v124) a + S1x1x64.size a ≤ S125000x8x64.size a)
theorem k0_off15_inb : ∀ (v122 : BitVec 32) (v124 : BitVec 32) (k0_hw7 : k0_chk7 v122 v124), ∀ a, (k0_off15 v122 v124) a + S1x1x64.size a ≤ S125000x8x64.size a := fun v122 v124 k0_hw7 => k0_hw7

def k0_off16 (k0_t2 : Fin k0_t2_loop.trips) (c5_i32 : BitVec 32) : Fin 2 → Nat :=
  let c0_i32_5 : BitVec 32 := 0#32
  let c1_i32_7 : BitVec 32 := 1#32
  let arg11 : BitVec 32 := Scf.iv c0_i32_5 c1_i32_7 k0_t2
  let c16_i32_62 : BitVec 32 := 16#32
  let v125 : BitVec 32 := Scalar.muli arg11 c16_i32_62
  let v126 : BitVec 32 := Scalar.addi v125 c5_i32
  let c0_i32_66 : BitVec 32 := 0#32
  ![v126.toNat, 0]
def k0_off17 (v138 : BitVec 32) (v140 : BitVec 32) : Fin 3 → Nat :=
  let c0_i32_71 : BitVec 32 := 0#32
  ![v138.toNat, v140.toNat, 0]

def k0_chk8 (v138 : BitVec 32) (v140 : BitVec 32) : Prop :=
  (∀ a, (k0_off17 v138 v140) a + S1x1x64.size a ≤ S125000x8x64.size a)
theorem k0_off17_inb : ∀ (v138 : BitVec 32) (v140 : BitVec 32) (k0_hw8 : k0_chk8 v138 v140), ∀ a, (k0_off17 v138 v140) a + S1x1x64.size a ≤ S125000x8x64.size a := fun v138 v140 k0_hw8 => k0_hw8

def k0_off18 (k0_t2 : Fin k0_t2_loop.trips) (c6_i32 : BitVec 32) : Fin 2 → Nat :=
  let c0_i32_5 : BitVec 32 := 0#32
  let c1_i32_7 : BitVec 32 := 1#32
  let arg11 : BitVec 32 := Scf.iv c0_i32_5 c1_i32_7 k0_t2
  let c16_i32_68 : BitVec 32 := 16#32
  let v141 : BitVec 32 := Scalar.muli arg11 c16_i32_68
  let v142 : BitVec 32 := Scalar.addi v141 c6_i32
  let c0_i32_72 : BitVec 32 := 0#32
  ![v142.toNat, 0]
def k0_off19 (v154 : BitVec 32) (v156 : BitVec 32) : Fin 3 → Nat :=
  let c0_i32_77 : BitVec 32 := 0#32
  ![v154.toNat, v156.toNat, 0]

def k0_chk9 (v154 : BitVec 32) (v156 : BitVec 32) : Prop :=
  (∀ a, (k0_off19 v154 v156) a + S1x1x64.size a ≤ S125000x8x64.size a)
theorem k0_off19_inb : ∀ (v154 : BitVec 32) (v156 : BitVec 32) (k0_hw9 : k0_chk9 v154 v156), ∀ a, (k0_off19 v154 v156) a + S1x1x64.size a ≤ S125000x8x64.size a := fun v154 v156 k0_hw9 => k0_hw9

def k0_off20 (k0_t2 : Fin k0_t2_loop.trips) (c7_i32 : BitVec 32) : Fin 2 → Nat :=
  let c0_i32_5 : BitVec 32 := 0#32
  let c1_i32_7 : BitVec 32 := 1#32
  let arg11 : BitVec 32 := Scf.iv c0_i32_5 c1_i32_7 k0_t2
  let c16_i32_74 : BitVec 32 := 16#32
  let v157 : BitVec 32 := Scalar.muli arg11 c16_i32_74
  let v158 : BitVec 32 := Scalar.addi v157 c7_i32
  let c0_i32_78 : BitVec 32 := 0#32
  ![v158.toNat, 0]
def k0_off21 (v170 : BitVec 32) (v172 : BitVec 32) : Fin 3 → Nat :=
  let c0_i32_83 : BitVec 32 := 0#32
  ![v170.toNat, v172.toNat, 0]

def k0_chk10 (v170 : BitVec 32) (v172 : BitVec 32) : Prop :=
  (∀ a, (k0_off21 v170 v172) a + S1x1x64.size a ≤ S125000x8x64.size a)
theorem k0_off21_inb : ∀ (v170 : BitVec 32) (v172 : BitVec 32) (k0_hw10 : k0_chk10 v170 v172), ∀ a, (k0_off21 v170 v172) a + S1x1x64.size a ≤ S125000x8x64.size a := fun v170 v172 k0_hw10 => k0_hw10

def k0_off22 (k0_t2 : Fin k0_t2_loop.trips) (c8_i32 : BitVec 32) : Fin 2 → Nat :=
  let c0_i32_5 : BitVec 32 := 0#32
  let c1_i32_7 : BitVec 32 := 1#32
  let arg11 : BitVec 32 := Scf.iv c0_i32_5 c1_i32_7 k0_t2
  let c16_i32_80 : BitVec 32 := 16#32
  let v173 : BitVec 32 := Scalar.muli arg11 c16_i32_80
  let v174 : BitVec 32 := Scalar.addi v173 c8_i32
  let c0_i32_84 : BitVec 32 := 0#32
  ![v174.toNat, 0]
def k0_off23 (v186 : BitVec 32) (v188 : BitVec 32) : Fin 3 → Nat :=
  let c0_i32_89 : BitVec 32 := 0#32
  ![v186.toNat, v188.toNat, 0]

def k0_chk11 (v186 : BitVec 32) (v188 : BitVec 32) : Prop :=
  (∀ a, (k0_off23 v186 v188) a + S1x1x64.size a ≤ S125000x8x64.size a)
theorem k0_off23_inb : ∀ (v186 : BitVec 32) (v188 : BitVec 32) (k0_hw11 : k0_chk11 v186 v188), ∀ a, (k0_off23 v186 v188) a + S1x1x64.size a ≤ S125000x8x64.size a := fun v186 v188 k0_hw11 => k0_hw11

def k0_off24 (k0_t2 : Fin k0_t2_loop.trips) (c9_i32 : BitVec 32) : Fin 2 → Nat :=
  let c0_i32_5 : BitVec 32 := 0#32
  let c1_i32_7 : BitVec 32 := 1#32
  let arg11 : BitVec 32 := Scf.iv c0_i32_5 c1_i32_7 k0_t2
  let c16_i32_86 : BitVec 32 := 16#32
  let v189 : BitVec 32 := Scalar.muli arg11 c16_i32_86
  let v190 : BitVec 32 := Scalar.addi v189 c9_i32
  let c0_i32_90 : BitVec 32 := 0#32
  ![v190.toNat, 0]
def k0_off25 (v202 : BitVec 32) (v204 : BitVec 32) : Fin 3 → Nat :=
  let c0_i32_95 : BitVec 32 := 0#32
  ![v202.toNat, v204.toNat, 0]

def k0_chk12 (v202 : BitVec 32) (v204 : BitVec 32) : Prop :=
  (∀ a, (k0_off25 v202 v204) a + S1x1x64.size a ≤ S125000x8x64.size a)
theorem k0_off25_inb : ∀ (v202 : BitVec 32) (v204 : BitVec 32) (k0_hw12 : k0_chk12 v202 v204), ∀ a, (k0_off25 v202 v204) a + S1x1x64.size a ≤ S125000x8x64.size a := fun v202 v204 k0_hw12 => k0_hw12

def k0_off26 (k0_t2 : Fin k0_t2_loop.trips) (c10_i32 : BitVec 32) : Fin 2 → Nat :=
  let c0_i32_5 : BitVec 32 := 0#32
  let c1_i32_7 : BitVec 32 := 1#32
  let arg11 : BitVec 32 := Scf.iv c0_i32_5 c1_i32_7 k0_t2
  let c16_i32_92 : BitVec 32 := 16#32
  let v205 : BitVec 32 := Scalar.muli arg11 c16_i32_92
  let v206 : BitVec 32 := Scalar.addi v205 c10_i32
  let c0_i32_96 : BitVec 32 := 0#32
  ![v206.toNat, 0]
def k0_off27 (v218 : BitVec 32) (v220 : BitVec 32) : Fin 3 → Nat :=
  let c0_i32_101 : BitVec 32 := 0#32
  ![v218.toNat, v220.toNat, 0]

def k0_chk13 (v218 : BitVec 32) (v220 : BitVec 32) : Prop :=
  (∀ a, (k0_off27 v218 v220) a + S1x1x64.size a ≤ S125000x8x64.size a)
theorem k0_off27_inb : ∀ (v218 : BitVec 32) (v220 : BitVec 32) (k0_hw13 : k0_chk13 v218 v220), ∀ a, (k0_off27 v218 v220) a + S1x1x64.size a ≤ S125000x8x64.size a := fun v218 v220 k0_hw13 => k0_hw13

def k0_off28 (k0_t2 : Fin k0_t2_loop.trips) (c11_i32 : BitVec 32) : Fin 2 → Nat :=
  let c0_i32_5 : BitVec 32 := 0#32
  let c1_i32_7 : BitVec 32 := 1#32
  let arg11 : BitVec 32 := Scf.iv c0_i32_5 c1_i32_7 k0_t2
  let c16_i32_98 : BitVec 32 := 16#32
  let v221 : BitVec 32 := Scalar.muli arg11 c16_i32_98
  let v222 : BitVec 32 := Scalar.addi v221 c11_i32
  let c0_i32_102 : BitVec 32 := 0#32
  ![v222.toNat, 0]
def k0_off29 (v234 : BitVec 32) (v236 : BitVec 32) : Fin 3 → Nat :=
  let c0_i32_107 : BitVec 32 := 0#32
  ![v234.toNat, v236.toNat, 0]

def k0_chk14 (v234 : BitVec 32) (v236 : BitVec 32) : Prop :=
  (∀ a, (k0_off29 v234 v236) a + S1x1x64.size a ≤ S125000x8x64.size a)
theorem k0_off29_inb : ∀ (v234 : BitVec 32) (v236 : BitVec 32) (k0_hw14 : k0_chk14 v234 v236), ∀ a, (k0_off29 v234 v236) a + S1x1x64.size a ≤ S125000x8x64.size a := fun v234 v236 k0_hw14 => k0_hw14

def k0_off30 (k0_t2 : Fin k0_t2_loop.trips) (c12_i32 : BitVec 32) : Fin 2 → Nat :=
  let c0_i32_5 : BitVec 32 := 0#32
  let c1_i32_7 : BitVec 32 := 1#32
  let arg11 : BitVec 32 := Scf.iv c0_i32_5 c1_i32_7 k0_t2
  let c16_i32_104 : BitVec 32 := 16#32
  let v237 : BitVec 32 := Scalar.muli arg11 c16_i32_104
  let v238 : BitVec 32 := Scalar.addi v237 c12_i32
  let c0_i32_108 : BitVec 32 := 0#32
  ![v238.toNat, 0]
def k0_off31 (v250 : BitVec 32) (v252 : BitVec 32) : Fin 3 → Nat :=
  let c0_i32_113 : BitVec 32 := 0#32
  ![v250.toNat, v252.toNat, 0]

def k0_chk15 (v250 : BitVec 32) (v252 : BitVec 32) : Prop :=
  (∀ a, (k0_off31 v250 v252) a + S1x1x64.size a ≤ S125000x8x64.size a)
theorem k0_off31_inb : ∀ (v250 : BitVec 32) (v252 : BitVec 32) (k0_hw15 : k0_chk15 v250 v252), ∀ a, (k0_off31 v250 v252) a + S1x1x64.size a ≤ S125000x8x64.size a := fun v250 v252 k0_hw15 => k0_hw15

def k0_off32 (k0_t2 : Fin k0_t2_loop.trips) (c13_i32 : BitVec 32) : Fin 2 → Nat :=
  let c0_i32_5 : BitVec 32 := 0#32
  let c1_i32_7 : BitVec 32 := 1#32
  let arg11 : BitVec 32 := Scf.iv c0_i32_5 c1_i32_7 k0_t2
  let c16_i32_110 : BitVec 32 := 16#32
  let v253 : BitVec 32 := Scalar.muli arg11 c16_i32_110
  let v254 : BitVec 32 := Scalar.addi v253 c13_i32
  let c0_i32_114 : BitVec 32 := 0#32
  ![v254.toNat, 0]
def k0_off33 (v266 : BitVec 32) (v268 : BitVec 32) : Fin 3 → Nat :=
  let c0_i32_119 : BitVec 32 := 0#32
  ![v266.toNat, v268.toNat, 0]

def k0_chk16 (v266 : BitVec 32) (v268 : BitVec 32) : Prop :=
  (∀ a, (k0_off33 v266 v268) a + S1x1x64.size a ≤ S125000x8x64.size a)
theorem k0_off33_inb : ∀ (v266 : BitVec 32) (v268 : BitVec 32) (k0_hw16 : k0_chk16 v266 v268), ∀ a, (k0_off33 v266 v268) a + S1x1x64.size a ≤ S125000x8x64.size a := fun v266 v268 k0_hw16 => k0_hw16

def k0_off34 (k0_t2 : Fin k0_t2_loop.trips) (c14_i32 : BitVec 32) : Fin 2 → Nat :=
  let c0_i32_5 : BitVec 32 := 0#32
  let c1_i32_7 : BitVec 32 := 1#32
  let arg11 : BitVec 32 := Scf.iv c0_i32_5 c1_i32_7 k0_t2
  let c16_i32_116 : BitVec 32 := 16#32
  let v269 : BitVec 32 := Scalar.muli arg11 c16_i32_116
  let v270 : BitVec 32 := Scalar.addi v269 c14_i32
  let c0_i32_120 : BitVec 32 := 0#32
  ![v270.toNat, 0]
def k0_off35 (v282 : BitVec 32) (v284 : BitVec 32) : Fin 3 → Nat :=
  let c0_i32_125 : BitVec 32 := 0#32
  ![v282.toNat, v284.toNat, 0]

def k0_chk17 (v282 : BitVec 32) (v284 : BitVec 32) : Prop :=
  (∀ a, (k0_off35 v282 v284) a + S1x1x64.size a ≤ S125000x8x64.size a)
theorem k0_off35_inb : ∀ (v282 : BitVec 32) (v284 : BitVec 32) (k0_hw17 : k0_chk17 v282 v284), ∀ a, (k0_off35 v282 v284) a + S1x1x64.size a ≤ S125000x8x64.size a := fun v282 v284 k0_hw17 => k0_hw17

def k0_off36 (k0_t2 : Fin k0_t2_loop.trips) : Fin 2 → Nat :=
  let c0_i32_5 : BitVec 32 := 0#32
  let c1_i32_7 : BitVec 32 := 1#32
  let arg11 : BitVec 32 := Scf.iv c0_i32_5 c1_i32_7 k0_t2
  let c16_i32_122 : BitVec 32 := 16#32
  let v285 : BitVec 32 := Scalar.muli arg11 c16_i32_122
  let c15_i32 : BitVec 32 := 15#32
  let v286 : BitVec 32 := Scalar.addi v285 c15_i32
  let c0_i32_126 : BitVec 32 := 0#32
  ![v286.toNat, 0]
@[reducible] def k0_t3_loop : Scf.Loop 32 :=
  let c0_i32_10 : BitVec 32 := 0#32
  let c32_i32_11 : BitVec 32 := 32#32
  let v9 : BitVec 32 := Scalar.addi c0_i32_10 c32_i32_11
  let c1_i32_12 : BitVec 32 := 1#32
  ⟨c0_i32_10, v9, c1_i32_12⟩
@[reducible] def k0_t4_loop (v7 : BitVec 32) : Scf.Loop 32 :=
  let c0_i32_23 : BitVec 32 := 0#32
  let c16_i32 : BitVec 32 := 16#32
  let v11 : BitVec 32 := Scalar.addi v7 c16_i32
  let c1_i32_14 : BitVec 32 := 1#32
  let v12 : BitVec 32 := Scalar.subi v11 c1_i32_14
  let c0_i32_16 : BitVec 32 := 0#32
  let v14 : BitVec 1 := Scalar.cmpi .sgt v12 c0_i32_16
  let v15 : BitVec 32 := Scalar.extui v14
  let c0_i32_17 : BitVec 32 := 0#32
  let v16 : BitVec 1 := Scalar.cmpi .slt v12 c0_i32_17
  let v17 : BitVec 32 := Scalar.extui v16
  let v18 : BitVec 32 := Scalar.subi v15 v17
  let c16_i32_15 : BitVec 32 := 16#32
  let c0_i32_18 : BitVec 32 := 0#32
  let v19 : BitVec 1 := Scalar.cmpi .sgt c16_i32_15 c0_i32_18
  let v20 : BitVec 32 := Scalar.extui v19
  let c0_i32_19 : BitVec 32 := 0#32
  let v21 : BitVec 1 := Scalar.cmpi .slt c16_i32_15 c0_i32_19
  let v22 : BitVec 32 := Scalar.extui v21
  let v23 : BitVec 32 := Scalar.subi v20 v22
  let v24 : BitVec 1 := Scalar.cmpi .ne v18 v23
  let v25 : BitVec 32 := Scalar.remsi v12 c16_i32_15
  let c0_i32_20 : BitVec 32 := 0#32
  let v26 : BitVec 1 := Scalar.cmpi .ne v25 c0_i32_20
  let v27 : BitVec 1 := Scalar.andi v24 v26
  let v13 : BitVec 32 := Scalar.divsi v12 c16_i32_15
  let c1_i32_21 : BitVec 32 := 1#32
  let v28 : BitVec 32 := Scalar.subi v13 c1_i32_21
  let v29 : BitVec 32 := Scalar.select v27 v28 v13
  let v30 : BitVec 32 := Scalar.subi v29 c0_i32_23
  let c1_i32_24 : BitVec 32 := 1#32
  let v32 : BitVec 32 := Scalar.divsi v30 c1_i32_24
  let v33 : BitVec 32 := Scalar.muli v32 c1_i32_24
  let v34 : BitVec 32 := Scalar.addi c0_i32_23 v33
  let c1_i32_25 : BitVec 32 := 1#32
  ⟨c0_i32_23, v34, c1_i32_25⟩

def k0_off37 (v7 : BitVec 32) (k0_t4 : Fin (k0_t4_loop v7).trips) : Fin 1 → Nat :=
  let c0_i32_23 : BitVec 32 := 0#32
  let c1_i32_25 : BitVec 32 := 1#32
  let arg11 : BitVec 32 := Scf.iv c0_i32_23 c1_i32_25 k0_t4
  let c16_i32_28 : BitVec 32 := 16#32
  let v40 : BitVec 32 := Scalar.muli arg11 c16_i32_28
  let v41 : Index := Scalar.indexCast v40
  ![v41.toNat]

def k0_chk19 (v43 : IVec S16 32) (v44 : IVec S16 32) : Prop :=
  (∀ a x, ((![v43, v44] : Fin 2 → IVec S16 32) a x).toNat < S512x64.size a)
theorem k0_idx2_inb : ∀ (v43 : IVec S16 32) (v44 : IVec S16 32) (k0_hw19 : k0_chk19 v43 v44), ∀ a x, ((![v43, v44] : Fin 2 → IVec S16 32) a x).toNat < S512x64.size a := fun v43 v44 k0_hw19 => k0_hw19

def k0_chk20 (v43 : IVec S16 32) (v45 : IVec S16 32) : Prop :=
  (∀ a x, ((![v43, v45] : Fin 2 → IVec S16 32) a x).toNat < S512x64.size a)
theorem k0_idx3_inb : ∀ (v43 : IVec S16 32) (v45 : IVec S16 32) (k0_hw20 : k0_chk20 v43 v45), ∀ a x, ((![v43, v45] : Fin 2 → IVec S16 32) a x).toNat < S512x64.size a := fun v43 v45 k0_hw20 => k0_hw20

def k0_chk21 (v43 : IVec S16 32) (v46 : IVec S16 32) : Prop :=
  (∀ a x, ((![v43, v46] : Fin 2 → IVec S16 32) a x).toNat < S512x64.size a)
theorem k0_idx4_inb : ∀ (v43 : IVec S16 32) (v46 : IVec S16 32) (k0_hw21 : k0_chk21 v43 v46), ∀ a x, ((![v43, v46] : Fin 2 → IVec S16 32) a x).toNat < S512x64.size a := fun v43 v46 k0_hw21 => k0_hw21

def k0_chk22 (v43 : IVec S16 32) (v47 : IVec S16 32) : Prop :=
  (∀ a x, ((![v43, v47] : Fin 2 → IVec S16 32) a x).toNat < S512x64.size a)
theorem k0_idx5_inb : ∀ (v43 : IVec S16 32) (v47 : IVec S16 32) (k0_hw22 : k0_chk22 v43 v47), ∀ a x, ((![v43, v47] : Fin 2 → IVec S16 32) a x).toNat < S512x64.size a := fun v43 v47 k0_hw22 => k0_hw22

def k0_chk23 (v43 : IVec S16 32) (v48 : IVec S16 32) : Prop :=
  (∀ a x, ((![v43, v48] : Fin 2 → IVec S16 32) a x).toNat < S512x64.size a)
theorem k0_idx6_inb : ∀ (v43 : IVec S16 32) (v48 : IVec S16 32) (k0_hw23 : k0_chk23 v43 v48), ∀ a x, ((![v43, v48] : Fin 2 → IVec S16 32) a x).toNat < S512x64.size a := fun v43 v48 k0_hw23 => k0_hw23

def k0_chk24 (v43 : IVec S16 32) (v49 : IVec S16 32) : Prop :=
  (∀ a x, ((![v43, v49] : Fin 2 → IVec S16 32) a x).toNat < S512x64.size a)
theorem k0_idx7_inb : ∀ (v43 : IVec S16 32) (v49 : IVec S16 32) (k0_hw24 : k0_chk24 v43 v49), ∀ a x, ((![v43, v49] : Fin 2 → IVec S16 32) a x).toNat < S512x64.size a := fun v43 v49 k0_hw24 => k0_hw24

def k0_chk25 (v43 : IVec S16 32) (v50 : IVec S16 32) : Prop :=
  (∀ a x, ((![v43, v50] : Fin 2 → IVec S16 32) a x).toNat < S512x64.size a)
theorem k0_idx8_inb : ∀ (v43 : IVec S16 32) (v50 : IVec S16 32) (k0_hw25 : k0_chk25 v43 v50), ∀ a x, ((![v43, v50] : Fin 2 → IVec S16 32) a x).toNat < S512x64.size a := fun v43 v50 k0_hw25 => k0_hw25

def k0_chk26 (v43 : IVec S16 32) (v51 : IVec S16 32) : Prop :=
  (∀ a x, ((![v43, v51] : Fin 2 → IVec S16 32) a x).toNat < S512x64.size a)
theorem k0_idx9_inb : ∀ (v43 : IVec S16 32) (v51 : IVec S16 32) (k0_hw26 : k0_chk26 v43 v51), ∀ a x, ((![v43, v51] : Fin 2 → IVec S16 32) a x).toNat < S512x64.size a := fun v43 v51 k0_hw26 => k0_hw26

def k0_chk27 (v43 : IVec S16 32) (v52 : IVec S16 32) : Prop :=
  (∀ a x, ((![v43, v52] : Fin 2 → IVec S16 32) a x).toNat < S512x64.size a)
theorem k0_idx10_inb : ∀ (v43 : IVec S16 32) (v52 : IVec S16 32) (k0_hw27 : k0_chk27 v43 v52), ∀ a x, ((![v43, v52] : Fin 2 → IVec S16 32) a x).toNat < S512x64.size a := fun v43 v52 k0_hw27 => k0_hw27

def k0_chk28 (v43 : IVec S16 32) (v53 : IVec S16 32) : Prop :=
  (∀ a x, ((![v43, v53] : Fin 2 → IVec S16 32) a x).toNat < S512x64.size a)
theorem k0_idx11_inb : ∀ (v43 : IVec S16 32) (v53 : IVec S16 32) (k0_hw28 : k0_chk28 v43 v53), ∀ a x, ((![v43, v53] : Fin 2 → IVec S16 32) a x).toNat < S512x64.size a := fun v43 v53 k0_hw28 => k0_hw28

def k0_chk29 (v43 : IVec S16 32) (v54 : IVec S16 32) : Prop :=
  (∀ a x, ((![v43, v54] : Fin 2 → IVec S16 32) a x).toNat < S512x64.size a)
theorem k0_idx12_inb : ∀ (v43 : IVec S16 32) (v54 : IVec S16 32) (k0_hw29 : k0_chk29 v43 v54), ∀ a x, ((![v43, v54] : Fin 2 → IVec S16 32) a x).toNat < S512x64.size a := fun v43 v54 k0_hw29 => k0_hw29

def k0_chk30 (v43 : IVec S16 32) (v55 : IVec S16 32) : Prop :=
  (∀ a x, ((![v43, v55] : Fin 2 → IVec S16 32) a x).toNat < S512x64.size a)
theorem k0_idx13_inb : ∀ (v43 : IVec S16 32) (v55 : IVec S16 32) (k0_hw30 : k0_chk30 v43 v55), ∀ a x, ((![v43, v55] : Fin 2 → IVec S16 32) a x).toNat < S512x64.size a := fun v43 v55 k0_hw30 => k0_hw30

def k0_chk31 (v43 : IVec S16 32) (v56 : IVec S16 32) : Prop :=
  (∀ a x, ((![v43, v56] : Fin 2 → IVec S16 32) a x).toNat < S512x64.size a)
theorem k0_idx14_inb : ∀ (v43 : IVec S16 32) (v56 : IVec S16 32) (k0_hw31 : k0_chk31 v43 v56), ∀ a x, ((![v43, v56] : Fin 2 → IVec S16 32) a x).toNat < S512x64.size a := fun v43 v56 k0_hw31 => k0_hw31

def k0_chk32 (v43 : IVec S16 32) (v57 : IVec S16 32) : Prop :=
  (∀ a x, ((![v43, v57] : Fin 2 → IVec S16 32) a x).toNat < S512x64.size a)
theorem k0_idx15_inb : ∀ (v43 : IVec S16 32) (v57 : IVec S16 32) (k0_hw32 : k0_chk32 v43 v57), ∀ a x, ((![v43, v57] : Fin 2 → IVec S16 32) a x).toNat < S512x64.size a := fun v43 v57 k0_hw32 => k0_hw32

def k0_chk33 (v43 : IVec S16 32) (v58 : IVec S16 32) : Prop :=
  (∀ a x, ((![v43, v58] : Fin 2 → IVec S16 32) a x).toNat < S512x64.size a)
theorem k0_idx16_inb : ∀ (v43 : IVec S16 32) (v58 : IVec S16 32) (k0_hw33 : k0_chk33 v43 v58), ∀ a x, ((![v43, v58] : Fin 2 → IVec S16 32) a x).toNat < S512x64.size a := fun v43 v58 k0_hw33 => k0_hw33

def k0_chk34 (v43 : IVec S16 32) (v59 : IVec S16 32) : Prop :=
  (∀ a x, ((![v43, v59] : Fin 2 → IVec S16 32) a x).toNat < S512x64.size a)
theorem k0_idx17_inb : ∀ (v43 : IVec S16 32) (v59 : IVec S16 32) (k0_hw34 : k0_chk34 v43 v59), ∀ a x, ((![v43, v59] : Fin 2 → IVec S16 32) a x).toNat < S512x64.size a := fun v43 v59 k0_hw34 => k0_hw34

def k0_chk35 (v43 : IVec S16 32) (v60 : IVec S16 32) : Prop :=
  (∀ a x, ((![v43, v60] : Fin 2 → IVec S16 32) a x).toNat < S512x64.size a)
theorem k0_idx18_inb : ∀ (v43 : IVec S16 32) (v60 : IVec S16 32) (k0_hw35 : k0_chk35 v43 v60), ∀ a x, ((![v43, v60] : Fin 2 → IVec S16 32) a x).toNat < S512x64.size a := fun v43 v60 k0_hw35 => k0_hw35

def k0_chk36 (v43 : IVec S16 32) (v61 : IVec S16 32) : Prop :=
  (∀ a x, ((![v43, v61] : Fin 2 → IVec S16 32) a x).toNat < S512x64.size a)
theorem k0_idx19_inb : ∀ (v43 : IVec S16 32) (v61 : IVec S16 32) (k0_hw36 : k0_chk36 v43 v61), ∀ a x, ((![v43, v61] : Fin 2 → IVec S16 32) a x).toNat < S512x64.size a := fun v43 v61 k0_hw36 => k0_hw36

def k0_chk37 (v43 : IVec S16 32) (v62 : IVec S16 32) : Prop :=
  (∀ a x, ((![v43, v62] : Fin 2 → IVec S16 32) a x).toNat < S512x64.size a)
theorem k0_idx20_inb : ∀ (v43 : IVec S16 32) (v62 : IVec S16 32) (k0_hw37 : k0_chk37 v43 v62), ∀ a x, ((![v43, v62] : Fin 2 → IVec S16 32) a x).toNat < S512x64.size a := fun v43 v62 k0_hw37 => k0_hw37

def k0_chk38 (v43 : IVec S16 32) (v63 : IVec S16 32) : Prop :=
  (∀ a x, ((![v43, v63] : Fin 2 → IVec S16 32) a x).toNat < S512x64.size a)
theorem k0_idx21_inb : ∀ (v43 : IVec S16 32) (v63 : IVec S16 32) (k0_hw38 : k0_chk38 v43 v63), ∀ a x, ((![v43, v63] : Fin 2 → IVec S16 32) a x).toNat < S512x64.size a := fun v43 v63 k0_hw38 => k0_hw38

def k0_chk39 (v43 : IVec S16 32) (v64 : IVec S16 32) : Prop :=
  (∀ a x, ((![v43, v64] : Fin 2 → IVec S16 32) a x).toNat < S512x64.size a)
theorem k0_idx22_inb : ∀ (v43 : IVec S16 32) (v64 : IVec S16 32) (k0_hw39 : k0_chk39 v43 v64), ∀ a x, ((![v43, v64] : Fin 2 → IVec S16 32) a x).toNat < S512x64.size a := fun v43 v64 k0_hw39 => k0_hw39

def k0_chk40 (v43 : IVec S16 32) (v65 : IVec S16 32) : Prop :=
  (∀ a x, ((![v43, v65] : Fin 2 → IVec S16 32) a x).toNat < S512x64.size a)
theorem k0_idx23_inb : ∀ (v43 : IVec S16 32) (v65 : IVec S16 32) (k0_hw40 : k0_chk40 v43 v65), ∀ a x, ((![v43, v65] : Fin 2 → IVec S16 32) a x).toNat < S512x64.size a := fun v43 v65 k0_hw40 => k0_hw40

def k0_chk41 (v43 : IVec S16 32) (v66 : IVec S16 32) : Prop :=
  (∀ a x, ((![v43, v66] : Fin 2 → IVec S16 32) a x).toNat < S512x64.size a)
theorem k0_idx24_inb : ∀ (v43 : IVec S16 32) (v66 : IVec S16 32) (k0_hw41 : k0_chk41 v43 v66), ∀ a x, ((![v43, v66] : Fin 2 → IVec S16 32) a x).toNat < S512x64.size a := fun v43 v66 k0_hw41 => k0_hw41

def k0_chk42 (v43 : IVec S16 32) (v67 : IVec S16 32) : Prop :=
  (∀ a x, ((![v43, v67] : Fin 2 → IVec S16 32) a x).toNat < S512x64.size a)
theorem k0_idx25_inb : ∀ (v43 : IVec S16 32) (v67 : IVec S16 32) (k0_hw42 : k0_chk42 v43 v67), ∀ a x, ((![v43, v67] : Fin 2 → IVec S16 32) a x).toNat < S512x64.size a := fun v43 v67 k0_hw42 => k0_hw42

def k0_chk43 (v43 : IVec S16 32) (v68 : IVec S16 32) : Prop :=
  (∀ a x, ((![v43, v68] : Fin 2 → IVec S16 32) a x).toNat < S512x64.size a)
theorem k0_idx26_inb : ∀ (v43 : IVec S16 32) (v68 : IVec S16 32) (k0_hw43 : k0_chk43 v43 v68), ∀ a x, ((![v43, v68] : Fin 2 → IVec S16 32) a x).toNat < S512x64.size a := fun v43 v68 k0_hw43 => k0_hw43

def k0_chk44 (v43 : IVec S16 32) (v69 : IVec S16 32) : Prop :=
  (∀ a x, ((![v43, v69] : Fin 2 → IVec S16 32) a x).toNat < S512x64.size a)
theorem k0_idx27_inb : ∀ (v43 : IVec S16 32) (v69 : IVec S16 32) (k0_hw44 : k0_chk44 v43 v69), ∀ a x, ((![v43, v69] : Fin 2 → IVec S16 32) a x).toNat < S512x64.size a := fun v43 v69 k0_hw44 => k0_hw44

def k0_chk45 (v43 : IVec S16 32) (v70 : IVec S16 32) : Prop :=
  (∀ a x, ((![v43, v70] : Fin 2 → IVec S16 32) a x).toNat < S512x64.size a)
theorem k0_idx28_inb : ∀ (v43 : IVec S16 32) (v70 : IVec S16 32) (k0_hw45 : k0_chk45 v43 v70), ∀ a x, ((![v43, v70] : Fin 2 → IVec S16 32) a x).toNat < S512x64.size a := fun v43 v70 k0_hw45 => k0_hw45

def k0_chk46 (v43 : IVec S16 32) (v71 : IVec S16 32) : Prop :=
  (∀ a x, ((![v43, v71] : Fin 2 → IVec S16 32) a x).toNat < S512x64.size a)
theorem k0_idx29_inb : ∀ (v43 : IVec S16 32) (v71 : IVec S16 32) (k0_hw46 : k0_chk46 v43 v71), ∀ a x, ((![v43, v71] : Fin 2 → IVec S16 32) a x).toNat < S512x64.size a := fun v43 v71 k0_hw46 => k0_hw46

def k0_chk47 (v43 : IVec S16 32) (v72 : IVec S16 32) : Prop :=
  (∀ a x, ((![v43, v72] : Fin 2 → IVec S16 32) a x).toNat < S512x64.size a)
theorem k0_idx30_inb : ∀ (v43 : IVec S16 32) (v72 : IVec S16 32) (k0_hw47 : k0_chk47 v43 v72), ∀ a x, ((![v43, v72] : Fin 2 → IVec S16 32) a x).toNat < S512x64.size a := fun v43 v72 k0_hw47 => k0_hw47

def k0_chk48 (v43 : IVec S16 32) (v73 : IVec S16 32) : Prop :=
  (∀ a x, ((![v43, v73] : Fin 2 → IVec S16 32) a x).toNat < S512x64.size a)
theorem k0_idx31_inb : ∀ (v43 : IVec S16 32) (v73 : IVec S16 32) (k0_hw48 : k0_chk48 v43 v73), ∀ a x, ((![v43, v73] : Fin 2 → IVec S16 32) a x).toNat < S512x64.size a := fun v43 v73 k0_hw48 => k0_hw48

def k0_chk49 (v43 : IVec S16 32) (v74 : IVec S16 32) : Prop :=
  (∀ a x, ((![v43, v74] : Fin 2 → IVec S16 32) a x).toNat < S512x64.size a)
theorem k0_idx32_inb : ∀ (v43 : IVec S16 32) (v74 : IVec S16 32) (k0_hw49 : k0_chk49 v43 v74), ∀ a x, ((![v43, v74] : Fin 2 → IVec S16 32) a x).toNat < S512x64.size a := fun v43 v74 k0_hw49 => k0_hw49

def k0_chk50 (v43 : IVec S16 32) (v75 : IVec S16 32) : Prop :=
  (∀ a x, ((![v43, v75] : Fin 2 → IVec S16 32) a x).toNat < S512x64.size a)
theorem k0_idx33_inb : ∀ (v43 : IVec S16 32) (v75 : IVec S16 32) (k0_hw50 : k0_chk50 v43 v75), ∀ a x, ((![v43, v75] : Fin 2 → IVec S16 32) a x).toNat < S512x64.size a := fun v43 v75 k0_hw50 => k0_hw50

def k0_chk51 (v43 : IVec S16 32) (v76 : IVec S16 32) : Prop :=
  (∀ a x, ((![v43, v76] : Fin 2 → IVec S16 32) a x).toNat < S512x64.size a)
theorem k0_idx34_inb : ∀ (v43 : IVec S16 32) (v76 : IVec S16 32) (k0_hw51 : k0_chk51 v43 v76), ∀ a x, ((![v43, v76] : Fin 2 → IVec S16 32) a x).toNat < S512x64.size a := fun v43 v76 k0_hw51 => k0_hw51

def k0_chk52 (v43 : IVec S16 32) (v77 : IVec S16 32) : Prop :=
  (∀ a x, ((![v43, v77] : Fin 2 → IVec S16 32) a x).toNat < S512x64.size a)
theorem k0_idx35_inb : ∀ (v43 : IVec S16 32) (v77 : IVec S16 32) (k0_hw52 : k0_chk52 v43 v77), ∀ a x, ((![v43, v77] : Fin 2 → IVec S16 32) a x).toNat < S512x64.size a := fun v43 v77 k0_hw52 => k0_hw52

def k0_chk53 (v43 : IVec S16 32) (v78 : IVec S16 32) : Prop :=
  (∀ a x, ((![v43, v78] : Fin 2 → IVec S16 32) a x).toNat < S512x64.size a)
theorem k0_idx36_inb : ∀ (v43 : IVec S16 32) (v78 : IVec S16 32) (k0_hw53 : k0_chk53 v43 v78), ∀ a x, ((![v43, v78] : Fin 2 → IVec S16 32) a x).toNat < S512x64.size a := fun v43 v78 k0_hw53 => k0_hw53

def k0_chk54 (v43 : IVec S16 32) (v79 : IVec S16 32) : Prop :=
  (∀ a x, ((![v43, v79] : Fin 2 → IVec S16 32) a x).toNat < S512x64.size a)
theorem k0_idx37_inb : ∀ (v43 : IVec S16 32) (v79 : IVec S16 32) (k0_hw54 : k0_chk54 v43 v79), ∀ a x, ((![v43, v79] : Fin 2 → IVec S16 32) a x).toNat < S512x64.size a := fun v43 v79 k0_hw54 => k0_hw54

def k0_chk55 (v43 : IVec S16 32) (v80 : IVec S16 32) : Prop :=
  (∀ a x, ((![v43, v80] : Fin 2 → IVec S16 32) a x).toNat < S512x64.size a)
theorem k0_idx38_inb : ∀ (v43 : IVec S16 32) (v80 : IVec S16 32) (k0_hw55 : k0_chk55 v43 v80), ∀ a x, ((![v43, v80] : Fin 2 → IVec S16 32) a x).toNat < S512x64.size a := fun v43 v80 k0_hw55 => k0_hw55

def k0_chk56 (v43 : IVec S16 32) (v81 : IVec S16 32) : Prop :=
  (∀ a x, ((![v43, v81] : Fin 2 → IVec S16 32) a x).toNat < S512x64.size a)
theorem k0_idx39_inb : ∀ (v43 : IVec S16 32) (v81 : IVec S16 32) (k0_hw56 : k0_chk56 v43 v81), ∀ a x, ((![v43, v81] : Fin 2 → IVec S16 32) a x).toNat < S512x64.size a := fun v43 v81 k0_hw56 => k0_hw56

def k0_chk57 (v43 : IVec S16 32) (v82 : IVec S16 32) : Prop :=
  (∀ a x, ((![v43, v82] : Fin 2 → IVec S16 32) a x).toNat < S512x64.size a)
theorem k0_idx40_inb : ∀ (v43 : IVec S16 32) (v82 : IVec S16 32) (k0_hw57 : k0_chk57 v43 v82), ∀ a x, ((![v43, v82] : Fin 2 → IVec S16 32) a x).toNat < S512x64.size a := fun v43 v82 k0_hw57 => k0_hw57

def k0_chk58 (v43 : IVec S16 32) (v83 : IVec S16 32) : Prop :=
  (∀ a x, ((![v43, v83] : Fin 2 → IVec S16 32) a x).toNat < S512x64.size a)
theorem k0_idx41_inb : ∀ (v43 : IVec S16 32) (v83 : IVec S16 32) (k0_hw58 : k0_chk58 v43 v83), ∀ a x, ((![v43, v83] : Fin 2 → IVec S16 32) a x).toNat < S512x64.size a := fun v43 v83 k0_hw58 => k0_hw58

def k0_chk59 (v43 : IVec S16 32) (v84 : IVec S16 32) : Prop :=
  (∀ a x, ((![v43, v84] : Fin 2 → IVec S16 32) a x).toNat < S512x64.size a)
theorem k0_idx42_inb : ∀ (v43 : IVec S16 32) (v84 : IVec S16 32) (k0_hw59 : k0_chk59 v43 v84), ∀ a x, ((![v43, v84] : Fin 2 → IVec S16 32) a x).toNat < S512x64.size a := fun v43 v84 k0_hw59 => k0_hw59

def k0_chk60 (v43 : IVec S16 32) (v85 : IVec S16 32) : Prop :=
  (∀ a x, ((![v43, v85] : Fin 2 → IVec S16 32) a x).toNat < S512x64.size a)
theorem k0_idx43_inb : ∀ (v43 : IVec S16 32) (v85 : IVec S16 32) (k0_hw60 : k0_chk60 v43 v85), ∀ a x, ((![v43, v85] : Fin 2 → IVec S16 32) a x).toNat < S512x64.size a := fun v43 v85 k0_hw60 => k0_hw60

def k0_chk61 (v43 : IVec S16 32) (v86 : IVec S16 32) : Prop :=
  (∀ a x, ((![v43, v86] : Fin 2 → IVec S16 32) a x).toNat < S512x64.size a)
theorem k0_idx44_inb : ∀ (v43 : IVec S16 32) (v86 : IVec S16 32) (k0_hw61 : k0_chk61 v43 v86), ∀ a x, ((![v43, v86] : Fin 2 → IVec S16 32) a x).toNat < S512x64.size a := fun v43 v86 k0_hw61 => k0_hw61

def k0_chk62 (v43 : IVec S16 32) (v87 : IVec S16 32) : Prop :=
  (∀ a x, ((![v43, v87] : Fin 2 → IVec S16 32) a x).toNat < S512x64.size a)
theorem k0_idx45_inb : ∀ (v43 : IVec S16 32) (v87 : IVec S16 32) (k0_hw62 : k0_chk62 v43 v87), ∀ a x, ((![v43, v87] : Fin 2 → IVec S16 32) a x).toNat < S512x64.size a := fun v43 v87 k0_hw62 => k0_hw62

def k0_chk63 (v43 : IVec S16 32) (v88 : IVec S16 32) : Prop :=
  (∀ a x, ((![v43, v88] : Fin 2 → IVec S16 32) a x).toNat < S512x64.size a)
theorem k0_idx46_inb : ∀ (v43 : IVec S16 32) (v88 : IVec S16 32) (k0_hw63 : k0_chk63 v43 v88), ∀ a x, ((![v43, v88] : Fin 2 → IVec S16 32) a x).toNat < S512x64.size a := fun v43 v88 k0_hw63 => k0_hw63

def k0_chk64 (v43 : IVec S16 32) (v89 : IVec S16 32) : Prop :=
  (∀ a x, ((![v43, v89] : Fin 2 → IVec S16 32) a x).toNat < S512x64.size a)
theorem k0_idx47_inb : ∀ (v43 : IVec S16 32) (v89 : IVec S16 32) (k0_hw64 : k0_chk64 v43 v89), ∀ a x, ((![v43, v89] : Fin 2 → IVec S16 32) a x).toNat < S512x64.size a := fun v43 v89 k0_hw64 => k0_hw64

def k0_chk65 (v43 : IVec S16 32) (v90 : IVec S16 32) : Prop :=
  (∀ a x, ((![v43, v90] : Fin 2 → IVec S16 32) a x).toNat < S512x64.size a)
theorem k0_idx48_inb : ∀ (v43 : IVec S16 32) (v90 : IVec S16 32) (k0_hw65 : k0_chk65 v43 v90), ∀ a x, ((![v43, v90] : Fin 2 → IVec S16 32) a x).toNat < S512x64.size a := fun v43 v90 k0_hw65 => k0_hw65

def k0_chk66 (v43 : IVec S16 32) (v91 : IVec S16 32) : Prop :=
  (∀ a x, ((![v43, v91] : Fin 2 → IVec S16 32) a x).toNat < S512x64.size a)
theorem k0_idx49_inb : ∀ (v43 : IVec S16 32) (v91 : IVec S16 32) (k0_hw66 : k0_chk66 v43 v91), ∀ a x, ((![v43, v91] : Fin 2 → IVec S16 32) a x).toNat < S512x64.size a := fun v43 v91 k0_hw66 => k0_hw66

def k0_chk67 (v43 : IVec S16 32) (v92 : IVec S16 32) : Prop :=
  (∀ a x, ((![v43, v92] : Fin 2 → IVec S16 32) a x).toNat < S512x64.size a)
theorem k0_idx50_inb : ∀ (v43 : IVec S16 32) (v92 : IVec S16 32) (k0_hw67 : k0_chk67 v43 v92), ∀ a x, ((![v43, v92] : Fin 2 → IVec S16 32) a x).toNat < S512x64.size a := fun v43 v92 k0_hw67 => k0_hw67

def k0_chk68 (v43 : IVec S16 32) (v93 : IVec S16 32) : Prop :=
  (∀ a x, ((![v43, v93] : Fin 2 → IVec S16 32) a x).toNat < S512x64.size a)
theorem k0_idx51_inb : ∀ (v43 : IVec S16 32) (v93 : IVec S16 32) (k0_hw68 : k0_chk68 v43 v93), ∀ a x, ((![v43, v93] : Fin 2 → IVec S16 32) a x).toNat < S512x64.size a := fun v43 v93 k0_hw68 => k0_hw68

def k0_chk69 (v43 : IVec S16 32) (v94 : IVec S16 32) : Prop :=
  (∀ a x, ((![v43, v94] : Fin 2 → IVec S16 32) a x).toNat < S512x64.size a)
theorem k0_idx52_inb : ∀ (v43 : IVec S16 32) (v94 : IVec S16 32) (k0_hw69 : k0_chk69 v43 v94), ∀ a x, ((![v43, v94] : Fin 2 → IVec S16 32) a x).toNat < S512x64.size a := fun v43 v94 k0_hw69 => k0_hw69

def k0_chk70 (v43 : IVec S16 32) (v95 : IVec S16 32) : Prop :=
  (∀ a x, ((![v43, v95] : Fin 2 → IVec S16 32) a x).toNat < S512x64.size a)
theorem k0_idx53_inb : ∀ (v43 : IVec S16 32) (v95 : IVec S16 32) (k0_hw70 : k0_chk70 v43 v95), ∀ a x, ((![v43, v95] : Fin 2 → IVec S16 32) a x).toNat < S512x64.size a := fun v43 v95 k0_hw70 => k0_hw70

def k0_chk71 (v43 : IVec S16 32) (v96 : IVec S16 32) : Prop :=
  (∀ a x, ((![v43, v96] : Fin 2 → IVec S16 32) a x).toNat < S512x64.size a)
theorem k0_idx54_inb : ∀ (v43 : IVec S16 32) (v96 : IVec S16 32) (k0_hw71 : k0_chk71 v43 v96), ∀ a x, ((![v43, v96] : Fin 2 → IVec S16 32) a x).toNat < S512x64.size a := fun v43 v96 k0_hw71 => k0_hw71

def k0_chk72 (v43 : IVec S16 32) (v97 : IVec S16 32) : Prop :=
  (∀ a x, ((![v43, v97] : Fin 2 → IVec S16 32) a x).toNat < S512x64.size a)
theorem k0_idx55_inb : ∀ (v43 : IVec S16 32) (v97 : IVec S16 32) (k0_hw72 : k0_chk72 v43 v97), ∀ a x, ((![v43, v97] : Fin 2 → IVec S16 32) a x).toNat < S512x64.size a := fun v43 v97 k0_hw72 => k0_hw72

def k0_chk73 (v43 : IVec S16 32) (v98 : IVec S16 32) : Prop :=
  (∀ a x, ((![v43, v98] : Fin 2 → IVec S16 32) a x).toNat < S512x64.size a)
theorem k0_idx56_inb : ∀ (v43 : IVec S16 32) (v98 : IVec S16 32) (k0_hw73 : k0_chk73 v43 v98), ∀ a x, ((![v43, v98] : Fin 2 → IVec S16 32) a x).toNat < S512x64.size a := fun v43 v98 k0_hw73 => k0_hw73

def k0_chk74 (v43 : IVec S16 32) (v99 : IVec S16 32) : Prop :=
  (∀ a x, ((![v43, v99] : Fin 2 → IVec S16 32) a x).toNat < S512x64.size a)
theorem k0_idx57_inb : ∀ (v43 : IVec S16 32) (v99 : IVec S16 32) (k0_hw74 : k0_chk74 v43 v99), ∀ a x, ((![v43, v99] : Fin 2 → IVec S16 32) a x).toNat < S512x64.size a := fun v43 v99 k0_hw74 => k0_hw74

def k0_chk75 (v43 : IVec S16 32) (v100 : IVec S16 32) : Prop :=
  (∀ a x, ((![v43, v100] : Fin 2 → IVec S16 32) a x).toNat < S512x64.size a)
theorem k0_idx58_inb : ∀ (v43 : IVec S16 32) (v100 : IVec S16 32) (k0_hw75 : k0_chk75 v43 v100), ∀ a x, ((![v43, v100] : Fin 2 → IVec S16 32) a x).toNat < S512x64.size a := fun v43 v100 k0_hw75 => k0_hw75

def k0_chk76 (v43 : IVec S16 32) (v101 : IVec S16 32) : Prop :=
  (∀ a x, ((![v43, v101] : Fin 2 → IVec S16 32) a x).toNat < S512x64.size a)
theorem k0_idx59_inb : ∀ (v43 : IVec S16 32) (v101 : IVec S16 32) (k0_hw76 : k0_chk76 v43 v101), ∀ a x, ((![v43, v101] : Fin 2 → IVec S16 32) a x).toNat < S512x64.size a := fun v43 v101 k0_hw76 => k0_hw76

def k0_chk77 (v43 : IVec S16 32) (v102 : IVec S16 32) : Prop :=
  (∀ a x, ((![v43, v102] : Fin 2 → IVec S16 32) a x).toNat < S512x64.size a)
theorem k0_idx60_inb : ∀ (v43 : IVec S16 32) (v102 : IVec S16 32) (k0_hw77 : k0_chk77 v43 v102), ∀ a x, ((![v43, v102] : Fin 2 → IVec S16 32) a x).toNat < S512x64.size a := fun v43 v102 k0_hw77 => k0_hw77

def k0_chk78 (v43 : IVec S16 32) (v103 : IVec S16 32) : Prop :=
  (∀ a x, ((![v43, v103] : Fin 2 → IVec S16 32) a x).toNat < S512x64.size a)
theorem k0_idx61_inb : ∀ (v43 : IVec S16 32) (v103 : IVec S16 32) (k0_hw78 : k0_chk78 v43 v103), ∀ a x, ((![v43, v103] : Fin 2 → IVec S16 32) a x).toNat < S512x64.size a := fun v43 v103 k0_hw78 => k0_hw78

def k0_chk79 (v43 : IVec S16 32) (v104 : IVec S16 32) : Prop :=
  (∀ a x, ((![v43, v104] : Fin 2 → IVec S16 32) a x).toNat < S512x64.size a)
theorem k0_idx62_inb : ∀ (v43 : IVec S16 32) (v104 : IVec S16 32) (k0_hw79 : k0_chk79 v43 v104), ∀ a x, ((![v43, v104] : Fin 2 → IVec S16 32) a x).toNat < S512x64.size a := fun v43 v104 k0_hw79 => k0_hw79

def k0_chk80 (v43 : IVec S16 32) (v105 : IVec S16 32) : Prop :=
  (∀ a x, ((![v43, v105] : Fin 2 → IVec S16 32) a x).toNat < S512x64.size a)
theorem k0_idx63_inb : ∀ (v43 : IVec S16 32) (v105 : IVec S16 32) (k0_hw80 : k0_chk80 v43 v105), ∀ a x, ((![v43, v105] : Fin 2 → IVec S16 32) a x).toNat < S512x64.size a := fun v43 v105 k0_hw80 => k0_hw80

def k0_chk81 (v43 : IVec S16 32) (v106 : IVec S16 32) : Prop :=
  (∀ a x, ((![v43, v106] : Fin 2 → IVec S16 32) a x).toNat < S512x64.size a)
theorem k0_idx64_inb : ∀ (v43 : IVec S16 32) (v106 : IVec S16 32) (k0_hw81 : k0_chk81 v43 v106), ∀ a x, ((![v43, v106] : Fin 2 → IVec S16 32) a x).toNat < S512x64.size a := fun v43 v106 k0_hw81 => k0_hw81

def k0_chk82 (v43 : IVec S16 32) (v107 : IVec S16 32) : Prop :=
  (∀ a x, ((![v43, v107] : Fin 2 → IVec S16 32) a x).toNat < S512x64.size a)
theorem k0_idx65_inb : ∀ (v43 : IVec S16 32) (v107 : IVec S16 32) (k0_hw82 : k0_chk82 v43 v107), ∀ a x, ((![v43, v107] : Fin 2 → IVec S16 32) a x).toNat < S512x64.size a := fun v43 v107 k0_hw82 => k0_hw82
@[reducible] def k0_t5_loop (v7 : BitVec 32) : Scf.Loop 32 :=
  let c0_i32_23 : BitVec 32 := 0#32
  let c16_i32 : BitVec 32 := 16#32
  let v11 : BitVec 32 := Scalar.addi v7 c16_i32
  let c1_i32_14 : BitVec 32 := 1#32
  let v12 : BitVec 32 := Scalar.subi v11 c1_i32_14
  let c0_i32_16 : BitVec 32 := 0#32
  let v14 : BitVec 1 := Scalar.cmpi .sgt v12 c0_i32_16
  let v15 : BitVec 32 := Scalar.extui v14
  let c0_i32_17 : BitVec 32 := 0#32
  let v16 : BitVec 1 := Scalar.cmpi .slt v12 c0_i32_17
  let v17 : BitVec 32 := Scalar.extui v16
  let v18 : BitVec 32 := Scalar.subi v15 v17
  let c16_i32_15 : BitVec 32 := 16#32
  let c0_i32_18 : BitVec 32 := 0#32
  let v19 : BitVec 1 := Scalar.cmpi .sgt c16_i32_15 c0_i32_18
  let v20 : BitVec 32 := Scalar.extui v19
  let c0_i32_19 : BitVec 32 := 0#32
  let v21 : BitVec 1 := Scalar.cmpi .slt c16_i32_15 c0_i32_19
  let v22 : BitVec 32 := Scalar.extui v21
  let v23 : BitVec 32 := Scalar.subi v20 v22
  let v24 : BitVec 1 := Scalar.cmpi .ne v18 v23
  let v25 : BitVec 32 := Scalar.remsi v12 c16_i32_15
  let c0_i32_20 : BitVec 32 := 0#32
  let v26 : BitVec 1 := Scalar.cmpi .ne v25 c0_i32_20
  let v27 : BitVec 1 := Scalar.andi v24 v26
  let v13 : BitVec 32 := Scalar.divsi v12 c16_i32_15
  let c1_i32_21 : BitVec 32 := 1#32
  let v28 : BitVec 32 := Scalar.subi v13 c1_i32_21
  let v29 : BitVec 32 := Scalar.select v27 v28 v13
  let v30 : BitVec 32 := Scalar.subi v29 c0_i32_23
  let c1_i32_24 : BitVec 32 := 1#32
  let v32 : BitVec 32 := Scalar.divsi v30 c1_i32_24
  let v33 : BitVec 32 := Scalar.muli v32 c1_i32_24
  let v34 : BitVec 32 := Scalar.addi c0_i32_23 v33
  let v31 : BitVec 32 := Scalar.addi c0_i32_23 v30
  let c1_i32_26 : BitVec 32 := 1#32
  ⟨v34, v31, c1_i32_26⟩
def k0_off38 (v7 : BitVec 32) (k0_t5 : Fin (k0_t5_loop v7).trips) : Fin 1 → Nat :=
  let c0_i32_23 : BitVec 32 := 0#32
  let c16_i32 : BitVec 32 := 16#32
  let v11 : BitVec 32 := Scalar.addi v7 c16_i32
  let c1_i32_14 : BitVec 32 := 1#32
  let v12 : BitVec 32 := Scalar.subi v11 c1_i32_14
  let c0_i32_16 : BitVec 32 := 0#32
  let v14 : BitVec 1 := Scalar.cmpi .sgt v12 c0_i32_16
  let v15 : BitVec 32 := Scalar.extui v14
  let c0_i32_17 : BitVec 32 := 0#32
  let v16 : BitVec 1 := Scalar.cmpi .slt v12 c0_i32_17
  let v17 : BitVec 32 := Scalar.extui v16
  let v18 : BitVec 32 := Scalar.subi v15 v17
  let c16_i32_15 : BitVec 32 := 16#32
  let c0_i32_18 : BitVec 32 := 0#32
  let v19 : BitVec 1 := Scalar.cmpi .sgt c16_i32_15 c0_i32_18
  let v20 : BitVec 32 := Scalar.extui v19
  let c0_i32_19 : BitVec 32 := 0#32
  let v21 : BitVec 1 := Scalar.cmpi .slt c16_i32_15 c0_i32_19
  let v22 : BitVec 32 := Scalar.extui v21
  let v23 : BitVec 32 := Scalar.subi v20 v22
  let v24 : BitVec 1 := Scalar.cmpi .ne v18 v23
  let v25 : BitVec 32 := Scalar.remsi v12 c16_i32_15
  let c0_i32_20 : BitVec 32 := 0#32
  let v26 : BitVec 1 := Scalar.cmpi .ne v25 c0_i32_20
  let v27 : BitVec 1 := Scalar.andi v24 v26
  let v13 : BitVec 32 := Scalar.divsi v12 c16_i32_15
  let c1_i32_21 : BitVec 32 := 1#32
  let v28 : BitVec 32 := Scalar.subi v13 c1_i32_21
  let v29 : BitVec 32 := Scalar.select v27 v28 v13
  let v30 : BitVec 32 := Scalar.subi v29 c0_i32_23
  let c1_i32_24 : BitVec 32 := 1#32
  let v32 : BitVec 32 := Scalar.divsi v30 c1_i32_24
  let v33 : BitVec 32 := Scalar.muli v32 c1_i32_24
  let v34 : BitVec 32 := Scalar.addi c0_i32_23 v33
  let c1_i32_26 : BitVec 32 := 1#32
  let arg11 : BitVec 32 := Scf.iv v34 c1_i32_26 k0_t5
  let c16_i32_28 : BitVec 32 := 16#32
  let v40 : BitVec 32 := Scalar.muli arg11 c16_i32_28
  let v41 : Index := Scalar.indexCast v40
  ![v41.toNat]

def k0_chk18 (v7 : BitVec 32) : Prop :=
  ((k0_t4_loop v7).OK) ∧
  (∀ k0_t4 : Fin (k0_t4_loop v7).trips, ∀ a, (k0_off37 v7 k0_t4) a + S16.size a ≤ S528.size a) ∧
  ((k0_t5_loop v7).OK) ∧
  (∀ k0_t5 : Fin (k0_t5_loop v7).trips, ∀ a, (k0_off38 v7 k0_t5) a + S16.size a ≤ S528.size a)
theorem k0_t4_ok : ∀ (v7 : BitVec 32) (k0_hw18 : k0_chk18 v7), (k0_t4_loop v7).OK := fun v7 k0_hw18 => k0_hw18.1
theorem k0_off37_inb : ∀ (v7 : BitVec 32) (k0_hw18 : k0_chk18 v7) (k0_t4 : Fin (k0_t4_loop v7).trips), ∀ a, (k0_off37 v7 k0_t4) a + S16.size a ≤ S528.size a := fun v7 k0_hw18 k0_t4 => k0_hw18.2.1 k0_t4
theorem k0_t5_ok : ∀ (v7 : BitVec 32) (k0_hw18 : k0_chk18 v7), (k0_t5_loop v7).OK := fun v7 k0_hw18 => k0_hw18.2.2.1
theorem k0_off38_inb : ∀ (v7 : BitVec 32) (k0_hw18 : k0_chk18 v7) (k0_t5 : Fin (k0_t5_loop v7).trips), ∀ a, (k0_off38 v7 k0_t5) a + S16.size a ≤ S528.size a := fun v7 k0_hw18 k0_t5 => k0_hw18.2.2.2 k0_t5

def k0_chk83 (v43 : IVec S16 32) (v44 : IVec S16 32) : Prop :=
  (∀ a x, ((![v43, v44] : Fin 2 → IVec S16 32) a x).toNat < S512x64.size a)
theorem k0_idx66_inb : ∀ (v43 : IVec S16 32) (v44 : IVec S16 32) (k0_hw83 : k0_chk83 v43 v44), ∀ a x, ((![v43, v44] : Fin 2 → IVec S16 32) a x).toNat < S512x64.size a := fun v43 v44 k0_hw83 => k0_hw83

def k0_chk84 (v43 : IVec S16 32) (v45 : IVec S16 32) : Prop :=
  (∀ a x, ((![v43, v45] : Fin 2 → IVec S16 32) a x).toNat < S512x64.size a)
theorem k0_idx67_inb : ∀ (v43 : IVec S16 32) (v45 : IVec S16 32) (k0_hw84 : k0_chk84 v43 v45), ∀ a x, ((![v43, v45] : Fin 2 → IVec S16 32) a x).toNat < S512x64.size a := fun v43 v45 k0_hw84 => k0_hw84

def k0_chk85 (v43 : IVec S16 32) (v46 : IVec S16 32) : Prop :=
  (∀ a x, ((![v43, v46] : Fin 2 → IVec S16 32) a x).toNat < S512x64.size a)
theorem k0_idx68_inb : ∀ (v43 : IVec S16 32) (v46 : IVec S16 32) (k0_hw85 : k0_chk85 v43 v46), ∀ a x, ((![v43, v46] : Fin 2 → IVec S16 32) a x).toNat < S512x64.size a := fun v43 v46 k0_hw85 => k0_hw85

def k0_chk86 (v43 : IVec S16 32) (v47 : IVec S16 32) : Prop :=
  (∀ a x, ((![v43, v47] : Fin 2 → IVec S16 32) a x).toNat < S512x64.size a)
theorem k0_idx69_inb : ∀ (v43 : IVec S16 32) (v47 : IVec S16 32) (k0_hw86 : k0_chk86 v43 v47), ∀ a x, ((![v43, v47] : Fin 2 → IVec S16 32) a x).toNat < S512x64.size a := fun v43 v47 k0_hw86 => k0_hw86

def k0_chk87 (v43 : IVec S16 32) (v48 : IVec S16 32) : Prop :=
  (∀ a x, ((![v43, v48] : Fin 2 → IVec S16 32) a x).toNat < S512x64.size a)
theorem k0_idx70_inb : ∀ (v43 : IVec S16 32) (v48 : IVec S16 32) (k0_hw87 : k0_chk87 v43 v48), ∀ a x, ((![v43, v48] : Fin 2 → IVec S16 32) a x).toNat < S512x64.size a := fun v43 v48 k0_hw87 => k0_hw87

def k0_chk88 (v43 : IVec S16 32) (v49 : IVec S16 32) : Prop :=
  (∀ a x, ((![v43, v49] : Fin 2 → IVec S16 32) a x).toNat < S512x64.size a)
theorem k0_idx71_inb : ∀ (v43 : IVec S16 32) (v49 : IVec S16 32) (k0_hw88 : k0_chk88 v43 v49), ∀ a x, ((![v43, v49] : Fin 2 → IVec S16 32) a x).toNat < S512x64.size a := fun v43 v49 k0_hw88 => k0_hw88

def k0_chk89 (v43 : IVec S16 32) (v50 : IVec S16 32) : Prop :=
  (∀ a x, ((![v43, v50] : Fin 2 → IVec S16 32) a x).toNat < S512x64.size a)
theorem k0_idx72_inb : ∀ (v43 : IVec S16 32) (v50 : IVec S16 32) (k0_hw89 : k0_chk89 v43 v50), ∀ a x, ((![v43, v50] : Fin 2 → IVec S16 32) a x).toNat < S512x64.size a := fun v43 v50 k0_hw89 => k0_hw89

def k0_chk90 (v43 : IVec S16 32) (v51 : IVec S16 32) : Prop :=
  (∀ a x, ((![v43, v51] : Fin 2 → IVec S16 32) a x).toNat < S512x64.size a)
theorem k0_idx73_inb : ∀ (v43 : IVec S16 32) (v51 : IVec S16 32) (k0_hw90 : k0_chk90 v43 v51), ∀ a x, ((![v43, v51] : Fin 2 → IVec S16 32) a x).toNat < S512x64.size a := fun v43 v51 k0_hw90 => k0_hw90

def k0_chk91 (v43 : IVec S16 32) (v52 : IVec S16 32) : Prop :=
  (∀ a x, ((![v43, v52] : Fin 2 → IVec S16 32) a x).toNat < S512x64.size a)
theorem k0_idx74_inb : ∀ (v43 : IVec S16 32) (v52 : IVec S16 32) (k0_hw91 : k0_chk91 v43 v52), ∀ a x, ((![v43, v52] : Fin 2 → IVec S16 32) a x).toNat < S512x64.size a := fun v43 v52 k0_hw91 => k0_hw91

def k0_chk92 (v43 : IVec S16 32) (v53 : IVec S16 32) : Prop :=
  (∀ a x, ((![v43, v53] : Fin 2 → IVec S16 32) a x).toNat < S512x64.size a)
theorem k0_idx75_inb : ∀ (v43 : IVec S16 32) (v53 : IVec S16 32) (k0_hw92 : k0_chk92 v43 v53), ∀ a x, ((![v43, v53] : Fin 2 → IVec S16 32) a x).toNat < S512x64.size a := fun v43 v53 k0_hw92 => k0_hw92

def k0_chk93 (v43 : IVec S16 32) (v54 : IVec S16 32) : Prop :=
  (∀ a x, ((![v43, v54] : Fin 2 → IVec S16 32) a x).toNat < S512x64.size a)
theorem k0_idx76_inb : ∀ (v43 : IVec S16 32) (v54 : IVec S16 32) (k0_hw93 : k0_chk93 v43 v54), ∀ a x, ((![v43, v54] : Fin 2 → IVec S16 32) a x).toNat < S512x64.size a := fun v43 v54 k0_hw93 => k0_hw93

def k0_chk94 (v43 : IVec S16 32) (v55 : IVec S16 32) : Prop :=
  (∀ a x, ((![v43, v55] : Fin 2 → IVec S16 32) a x).toNat < S512x64.size a)
theorem k0_idx77_inb : ∀ (v43 : IVec S16 32) (v55 : IVec S16 32) (k0_hw94 : k0_chk94 v43 v55), ∀ a x, ((![v43, v55] : Fin 2 → IVec S16 32) a x).toNat < S512x64.size a := fun v43 v55 k0_hw94 => k0_hw94

def k0_chk95 (v43 : IVec S16 32) (v56 : IVec S16 32) : Prop :=
  (∀ a x, ((![v43, v56] : Fin 2 → IVec S16 32) a x).toNat < S512x64.size a)
theorem k0_idx78_inb : ∀ (v43 : IVec S16 32) (v56 : IVec S16 32) (k0_hw95 : k0_chk95 v43 v56), ∀ a x, ((![v43, v56] : Fin 2 → IVec S16 32) a x).toNat < S512x64.size a := fun v43 v56 k0_hw95 => k0_hw95

def k0_chk96 (v43 : IVec S16 32) (v57 : IVec S16 32) : Prop :=
  (∀ a x, ((![v43, v57] : Fin 2 → IVec S16 32) a x).toNat < S512x64.size a)
theorem k0_idx79_inb : ∀ (v43 : IVec S16 32) (v57 : IVec S16 32) (k0_hw96 : k0_chk96 v43 v57), ∀ a x, ((![v43, v57] : Fin 2 → IVec S16 32) a x).toNat < S512x64.size a := fun v43 v57 k0_hw96 => k0_hw96

def k0_chk97 (v43 : IVec S16 32) (v58 : IVec S16 32) : Prop :=
  (∀ a x, ((![v43, v58] : Fin 2 → IVec S16 32) a x).toNat < S512x64.size a)
theorem k0_idx80_inb : ∀ (v43 : IVec S16 32) (v58 : IVec S16 32) (k0_hw97 : k0_chk97 v43 v58), ∀ a x, ((![v43, v58] : Fin 2 → IVec S16 32) a x).toNat < S512x64.size a := fun v43 v58 k0_hw97 => k0_hw97

def k0_chk98 (v43 : IVec S16 32) (v59 : IVec S16 32) : Prop :=
  (∀ a x, ((![v43, v59] : Fin 2 → IVec S16 32) a x).toNat < S512x64.size a)
theorem k0_idx81_inb : ∀ (v43 : IVec S16 32) (v59 : IVec S16 32) (k0_hw98 : k0_chk98 v43 v59), ∀ a x, ((![v43, v59] : Fin 2 → IVec S16 32) a x).toNat < S512x64.size a := fun v43 v59 k0_hw98 => k0_hw98

def k0_chk99 (v43 : IVec S16 32) (v60 : IVec S16 32) : Prop :=
  (∀ a x, ((![v43, v60] : Fin 2 → IVec S16 32) a x).toNat < S512x64.size a)
theorem k0_idx82_inb : ∀ (v43 : IVec S16 32) (v60 : IVec S16 32) (k0_hw99 : k0_chk99 v43 v60), ∀ a x, ((![v43, v60] : Fin 2 → IVec S16 32) a x).toNat < S512x64.size a := fun v43 v60 k0_hw99 => k0_hw99

def k0_chk100 (v43 : IVec S16 32) (v61 : IVec S16 32) : Prop :=
  (∀ a x, ((![v43, v61] : Fin 2 → IVec S16 32) a x).toNat < S512x64.size a)
theorem k0_idx83_inb : ∀ (v43 : IVec S16 32) (v61 : IVec S16 32) (k0_hw100 : k0_chk100 v43 v61), ∀ a x, ((![v43, v61] : Fin 2 → IVec S16 32) a x).toNat < S512x64.size a := fun v43 v61 k0_hw100 => k0_hw100

def k0_chk101 (v43 : IVec S16 32) (v62 : IVec S16 32) : Prop :=
  (∀ a x, ((![v43, v62] : Fin 2 → IVec S16 32) a x).toNat < S512x64.size a)
theorem k0_idx84_inb : ∀ (v43 : IVec S16 32) (v62 : IVec S16 32) (k0_hw101 : k0_chk101 v43 v62), ∀ a x, ((![v43, v62] : Fin 2 → IVec S16 32) a x).toNat < S512x64.size a := fun v43 v62 k0_hw101 => k0_hw101

def k0_chk102 (v43 : IVec S16 32) (v63 : IVec S16 32) : Prop :=
  (∀ a x, ((![v43, v63] : Fin 2 → IVec S16 32) a x).toNat < S512x64.size a)
theorem k0_idx85_inb : ∀ (v43 : IVec S16 32) (v63 : IVec S16 32) (k0_hw102 : k0_chk102 v43 v63), ∀ a x, ((![v43, v63] : Fin 2 → IVec S16 32) a x).toNat < S512x64.size a := fun v43 v63 k0_hw102 => k0_hw102

def k0_chk103 (v43 : IVec S16 32) (v64 : IVec S16 32) : Prop :=
  (∀ a x, ((![v43, v64] : Fin 2 → IVec S16 32) a x).toNat < S512x64.size a)
theorem k0_idx86_inb : ∀ (v43 : IVec S16 32) (v64 : IVec S16 32) (k0_hw103 : k0_chk103 v43 v64), ∀ a x, ((![v43, v64] : Fin 2 → IVec S16 32) a x).toNat < S512x64.size a := fun v43 v64 k0_hw103 => k0_hw103

def k0_chk104 (v43 : IVec S16 32) (v65 : IVec S16 32) : Prop :=
  (∀ a x, ((![v43, v65] : Fin 2 → IVec S16 32) a x).toNat < S512x64.size a)
theorem k0_idx87_inb : ∀ (v43 : IVec S16 32) (v65 : IVec S16 32) (k0_hw104 : k0_chk104 v43 v65), ∀ a x, ((![v43, v65] : Fin 2 → IVec S16 32) a x).toNat < S512x64.size a := fun v43 v65 k0_hw104 => k0_hw104

def k0_chk105 (v43 : IVec S16 32) (v66 : IVec S16 32) : Prop :=
  (∀ a x, ((![v43, v66] : Fin 2 → IVec S16 32) a x).toNat < S512x64.size a)
theorem k0_idx88_inb : ∀ (v43 : IVec S16 32) (v66 : IVec S16 32) (k0_hw105 : k0_chk105 v43 v66), ∀ a x, ((![v43, v66] : Fin 2 → IVec S16 32) a x).toNat < S512x64.size a := fun v43 v66 k0_hw105 => k0_hw105

def k0_chk106 (v43 : IVec S16 32) (v67 : IVec S16 32) : Prop :=
  (∀ a x, ((![v43, v67] : Fin 2 → IVec S16 32) a x).toNat < S512x64.size a)
theorem k0_idx89_inb : ∀ (v43 : IVec S16 32) (v67 : IVec S16 32) (k0_hw106 : k0_chk106 v43 v67), ∀ a x, ((![v43, v67] : Fin 2 → IVec S16 32) a x).toNat < S512x64.size a := fun v43 v67 k0_hw106 => k0_hw106

def k0_chk107 (v43 : IVec S16 32) (v68 : IVec S16 32) : Prop :=
  (∀ a x, ((![v43, v68] : Fin 2 → IVec S16 32) a x).toNat < S512x64.size a)
theorem k0_idx90_inb : ∀ (v43 : IVec S16 32) (v68 : IVec S16 32) (k0_hw107 : k0_chk107 v43 v68), ∀ a x, ((![v43, v68] : Fin 2 → IVec S16 32) a x).toNat < S512x64.size a := fun v43 v68 k0_hw107 => k0_hw107

def k0_chk108 (v43 : IVec S16 32) (v69 : IVec S16 32) : Prop :=
  (∀ a x, ((![v43, v69] : Fin 2 → IVec S16 32) a x).toNat < S512x64.size a)
theorem k0_idx91_inb : ∀ (v43 : IVec S16 32) (v69 : IVec S16 32) (k0_hw108 : k0_chk108 v43 v69), ∀ a x, ((![v43, v69] : Fin 2 → IVec S16 32) a x).toNat < S512x64.size a := fun v43 v69 k0_hw108 => k0_hw108

def k0_chk109 (v43 : IVec S16 32) (v70 : IVec S16 32) : Prop :=
  (∀ a x, ((![v43, v70] : Fin 2 → IVec S16 32) a x).toNat < S512x64.size a)
theorem k0_idx92_inb : ∀ (v43 : IVec S16 32) (v70 : IVec S16 32) (k0_hw109 : k0_chk109 v43 v70), ∀ a x, ((![v43, v70] : Fin 2 → IVec S16 32) a x).toNat < S512x64.size a := fun v43 v70 k0_hw109 => k0_hw109

def k0_chk110 (v43 : IVec S16 32) (v71 : IVec S16 32) : Prop :=
  (∀ a x, ((![v43, v71] : Fin 2 → IVec S16 32) a x).toNat < S512x64.size a)
theorem k0_idx93_inb : ∀ (v43 : IVec S16 32) (v71 : IVec S16 32) (k0_hw110 : k0_chk110 v43 v71), ∀ a x, ((![v43, v71] : Fin 2 → IVec S16 32) a x).toNat < S512x64.size a := fun v43 v71 k0_hw110 => k0_hw110

def k0_chk111 (v43 : IVec S16 32) (v72 : IVec S16 32) : Prop :=
  (∀ a x, ((![v43, v72] : Fin 2 → IVec S16 32) a x).toNat < S512x64.size a)
theorem k0_idx94_inb : ∀ (v43 : IVec S16 32) (v72 : IVec S16 32) (k0_hw111 : k0_chk111 v43 v72), ∀ a x, ((![v43, v72] : Fin 2 → IVec S16 32) a x).toNat < S512x64.size a := fun v43 v72 k0_hw111 => k0_hw111

def k0_chk112 (v43 : IVec S16 32) (v73 : IVec S16 32) : Prop :=
  (∀ a x, ((![v43, v73] : Fin 2 → IVec S16 32) a x).toNat < S512x64.size a)
theorem k0_idx95_inb : ∀ (v43 : IVec S16 32) (v73 : IVec S16 32) (k0_hw112 : k0_chk112 v43 v73), ∀ a x, ((![v43, v73] : Fin 2 → IVec S16 32) a x).toNat < S512x64.size a := fun v43 v73 k0_hw112 => k0_hw112

def k0_chk113 (v43 : IVec S16 32) (v74 : IVec S16 32) : Prop :=
  (∀ a x, ((![v43, v74] : Fin 2 → IVec S16 32) a x).toNat < S512x64.size a)
theorem k0_idx96_inb : ∀ (v43 : IVec S16 32) (v74 : IVec S16 32) (k0_hw113 : k0_chk113 v43 v74), ∀ a x, ((![v43, v74] : Fin 2 → IVec S16 32) a x).toNat < S512x64.size a := fun v43 v74 k0_hw113 => k0_hw113

def k0_chk114 (v43 : IVec S16 32) (v75 : IVec S16 32) : Prop :=
  (∀ a x, ((![v43, v75] : Fin 2 → IVec S16 32) a x).toNat < S512x64.size a)
theorem k0_idx97_inb : ∀ (v43 : IVec S16 32) (v75 : IVec S16 32) (k0_hw114 : k0_chk114 v43 v75), ∀ a x, ((![v43, v75] : Fin 2 → IVec S16 32) a x).toNat < S512x64.size a := fun v43 v75 k0_hw114 => k0_hw114

def k0_chk115 (v43 : IVec S16 32) (v76 : IVec S16 32) : Prop :=
  (∀ a x, ((![v43, v76] : Fin 2 → IVec S16 32) a x).toNat < S512x64.size a)
theorem k0_idx98_inb : ∀ (v43 : IVec S16 32) (v76 : IVec S16 32) (k0_hw115 : k0_chk115 v43 v76), ∀ a x, ((![v43, v76] : Fin 2 → IVec S16 32) a x).toNat < S512x64.size a := fun v43 v76 k0_hw115 => k0_hw115

def k0_chk116 (v43 : IVec S16 32) (v77 : IVec S16 32) : Prop :=
  (∀ a x, ((![v43, v77] : Fin 2 → IVec S16 32) a x).toNat < S512x64.size a)
theorem k0_idx99_inb : ∀ (v43 : IVec S16 32) (v77 : IVec S16 32) (k0_hw116 : k0_chk116 v43 v77), ∀ a x, ((![v43, v77] : Fin 2 → IVec S16 32) a x).toNat < S512x64.size a := fun v43 v77 k0_hw116 => k0_hw116

def k0_chk117 (v43 : IVec S16 32) (v78 : IVec S16 32) : Prop :=
  (∀ a x, ((![v43, v78] : Fin 2 → IVec S16 32) a x).toNat < S512x64.size a)
theorem k0_idx100_inb : ∀ (v43 : IVec S16 32) (v78 : IVec S16 32) (k0_hw117 : k0_chk117 v43 v78), ∀ a x, ((![v43, v78] : Fin 2 → IVec S16 32) a x).toNat < S512x64.size a := fun v43 v78 k0_hw117 => k0_hw117

def k0_chk118 (v43 : IVec S16 32) (v79 : IVec S16 32) : Prop :=
  (∀ a x, ((![v43, v79] : Fin 2 → IVec S16 32) a x).toNat < S512x64.size a)
theorem k0_idx101_inb : ∀ (v43 : IVec S16 32) (v79 : IVec S16 32) (k0_hw118 : k0_chk118 v43 v79), ∀ a x, ((![v43, v79] : Fin 2 → IVec S16 32) a x).toNat < S512x64.size a := fun v43 v79 k0_hw118 => k0_hw118

def k0_chk119 (v43 : IVec S16 32) (v80 : IVec S16 32) : Prop :=
  (∀ a x, ((![v43, v80] : Fin 2 → IVec S16 32) a x).toNat < S512x64.size a)
theorem k0_idx102_inb : ∀ (v43 : IVec S16 32) (v80 : IVec S16 32) (k0_hw119 : k0_chk119 v43 v80), ∀ a x, ((![v43, v80] : Fin 2 → IVec S16 32) a x).toNat < S512x64.size a := fun v43 v80 k0_hw119 => k0_hw119

def k0_chk120 (v43 : IVec S16 32) (v81 : IVec S16 32) : Prop :=
  (∀ a x, ((![v43, v81] : Fin 2 → IVec S16 32) a x).toNat < S512x64.size a)
theorem k0_idx103_inb : ∀ (v43 : IVec S16 32) (v81 : IVec S16 32) (k0_hw120 : k0_chk120 v43 v81), ∀ a x, ((![v43, v81] : Fin 2 → IVec S16 32) a x).toNat < S512x64.size a := fun v43 v81 k0_hw120 => k0_hw120

def k0_chk121 (v43 : IVec S16 32) (v82 : IVec S16 32) : Prop :=
  (∀ a x, ((![v43, v82] : Fin 2 → IVec S16 32) a x).toNat < S512x64.size a)
theorem k0_idx104_inb : ∀ (v43 : IVec S16 32) (v82 : IVec S16 32) (k0_hw121 : k0_chk121 v43 v82), ∀ a x, ((![v43, v82] : Fin 2 → IVec S16 32) a x).toNat < S512x64.size a := fun v43 v82 k0_hw121 => k0_hw121

def k0_chk122 (v43 : IVec S16 32) (v83 : IVec S16 32) : Prop :=
  (∀ a x, ((![v43, v83] : Fin 2 → IVec S16 32) a x).toNat < S512x64.size a)
theorem k0_idx105_inb : ∀ (v43 : IVec S16 32) (v83 : IVec S16 32) (k0_hw122 : k0_chk122 v43 v83), ∀ a x, ((![v43, v83] : Fin 2 → IVec S16 32) a x).toNat < S512x64.size a := fun v43 v83 k0_hw122 => k0_hw122

def k0_chk123 (v43 : IVec S16 32) (v84 : IVec S16 32) : Prop :=
  (∀ a x, ((![v43, v84] : Fin 2 → IVec S16 32) a x).toNat < S512x64.size a)
theorem k0_idx106_inb : ∀ (v43 : IVec S16 32) (v84 : IVec S16 32) (k0_hw123 : k0_chk123 v43 v84), ∀ a x, ((![v43, v84] : Fin 2 → IVec S16 32) a x).toNat < S512x64.size a := fun v43 v84 k0_hw123 => k0_hw123

def k0_chk124 (v43 : IVec S16 32) (v85 : IVec S16 32) : Prop :=
  (∀ a x, ((![v43, v85] : Fin 2 → IVec S16 32) a x).toNat < S512x64.size a)
theorem k0_idx107_inb : ∀ (v43 : IVec S16 32) (v85 : IVec S16 32) (k0_hw124 : k0_chk124 v43 v85), ∀ a x, ((![v43, v85] : Fin 2 → IVec S16 32) a x).toNat < S512x64.size a := fun v43 v85 k0_hw124 => k0_hw124

def k0_chk125 (v43 : IVec S16 32) (v86 : IVec S16 32) : Prop :=
  (∀ a x, ((![v43, v86] : Fin 2 → IVec S16 32) a x).toNat < S512x64.size a)
theorem k0_idx108_inb : ∀ (v43 : IVec S16 32) (v86 : IVec S16 32) (k0_hw125 : k0_chk125 v43 v86), ∀ a x, ((![v43, v86] : Fin 2 → IVec S16 32) a x).toNat < S512x64.size a := fun v43 v86 k0_hw125 => k0_hw125

def k0_chk126 (v43 : IVec S16 32) (v87 : IVec S16 32) : Prop :=
  (∀ a x, ((![v43, v87] : Fin 2 → IVec S16 32) a x).toNat < S512x64.size a)
theorem k0_idx109_inb : ∀ (v43 : IVec S16 32) (v87 : IVec S16 32) (k0_hw126 : k0_chk126 v43 v87), ∀ a x, ((![v43, v87] : Fin 2 → IVec S16 32) a x).toNat < S512x64.size a := fun v43 v87 k0_hw126 => k0_hw126

def k0_chk127 (v43 : IVec S16 32) (v88 : IVec S16 32) : Prop :=
  (∀ a x, ((![v43, v88] : Fin 2 → IVec S16 32) a x).toNat < S512x64.size a)
theorem k0_idx110_inb : ∀ (v43 : IVec S16 32) (v88 : IVec S16 32) (k0_hw127 : k0_chk127 v43 v88), ∀ a x, ((![v43, v88] : Fin 2 → IVec S16 32) a x).toNat < S512x64.size a := fun v43 v88 k0_hw127 => k0_hw127

def k0_chk128 (v43 : IVec S16 32) (v89 : IVec S16 32) : Prop :=
  (∀ a x, ((![v43, v89] : Fin 2 → IVec S16 32) a x).toNat < S512x64.size a)
theorem k0_idx111_inb : ∀ (v43 : IVec S16 32) (v89 : IVec S16 32) (k0_hw128 : k0_chk128 v43 v89), ∀ a x, ((![v43, v89] : Fin 2 → IVec S16 32) a x).toNat < S512x64.size a := fun v43 v89 k0_hw128 => k0_hw128

def k0_chk129 (v43 : IVec S16 32) (v90 : IVec S16 32) : Prop :=
  (∀ a x, ((![v43, v90] : Fin 2 → IVec S16 32) a x).toNat < S512x64.size a)
theorem k0_idx112_inb : ∀ (v43 : IVec S16 32) (v90 : IVec S16 32) (k0_hw129 : k0_chk129 v43 v90), ∀ a x, ((![v43, v90] : Fin 2 → IVec S16 32) a x).toNat < S512x64.size a := fun v43 v90 k0_hw129 => k0_hw129

def k0_chk130 (v43 : IVec S16 32) (v91 : IVec S16 32) : Prop :=
  (∀ a x, ((![v43, v91] : Fin 2 → IVec S16 32) a x).toNat < S512x64.size a)
theorem k0_idx113_inb : ∀ (v43 : IVec S16 32) (v91 : IVec S16 32) (k0_hw130 : k0_chk130 v43 v91), ∀ a x, ((![v43, v91] : Fin 2 → IVec S16 32) a x).toNat < S512x64.size a := fun v43 v91 k0_hw130 => k0_hw130

def k0_chk131 (v43 : IVec S16 32) (v92 : IVec S16 32) : Prop :=
  (∀ a x, ((![v43, v92] : Fin 2 → IVec S16 32) a x).toNat < S512x64.size a)
theorem k0_idx114_inb : ∀ (v43 : IVec S16 32) (v92 : IVec S16 32) (k0_hw131 : k0_chk131 v43 v92), ∀ a x, ((![v43, v92] : Fin 2 → IVec S16 32) a x).toNat < S512x64.size a := fun v43 v92 k0_hw131 => k0_hw131

def k0_chk132 (v43 : IVec S16 32) (v93 : IVec S16 32) : Prop :=
  (∀ a x, ((![v43, v93] : Fin 2 → IVec S16 32) a x).toNat < S512x64.size a)
theorem k0_idx115_inb : ∀ (v43 : IVec S16 32) (v93 : IVec S16 32) (k0_hw132 : k0_chk132 v43 v93), ∀ a x, ((![v43, v93] : Fin 2 → IVec S16 32) a x).toNat < S512x64.size a := fun v43 v93 k0_hw132 => k0_hw132

def k0_chk133 (v43 : IVec S16 32) (v94 : IVec S16 32) : Prop :=
  (∀ a x, ((![v43, v94] : Fin 2 → IVec S16 32) a x).toNat < S512x64.size a)
theorem k0_idx116_inb : ∀ (v43 : IVec S16 32) (v94 : IVec S16 32) (k0_hw133 : k0_chk133 v43 v94), ∀ a x, ((![v43, v94] : Fin 2 → IVec S16 32) a x).toNat < S512x64.size a := fun v43 v94 k0_hw133 => k0_hw133

def k0_chk134 (v43 : IVec S16 32) (v95 : IVec S16 32) : Prop :=
  (∀ a x, ((![v43, v95] : Fin 2 → IVec S16 32) a x).toNat < S512x64.size a)
theorem k0_idx117_inb : ∀ (v43 : IVec S16 32) (v95 : IVec S16 32) (k0_hw134 : k0_chk134 v43 v95), ∀ a x, ((![v43, v95] : Fin 2 → IVec S16 32) a x).toNat < S512x64.size a := fun v43 v95 k0_hw134 => k0_hw134

def k0_chk135 (v43 : IVec S16 32) (v96 : IVec S16 32) : Prop :=
  (∀ a x, ((![v43, v96] : Fin 2 → IVec S16 32) a x).toNat < S512x64.size a)
theorem k0_idx118_inb : ∀ (v43 : IVec S16 32) (v96 : IVec S16 32) (k0_hw135 : k0_chk135 v43 v96), ∀ a x, ((![v43, v96] : Fin 2 → IVec S16 32) a x).toNat < S512x64.size a := fun v43 v96 k0_hw135 => k0_hw135

def k0_chk136 (v43 : IVec S16 32) (v97 : IVec S16 32) : Prop :=
  (∀ a x, ((![v43, v97] : Fin 2 → IVec S16 32) a x).toNat < S512x64.size a)
theorem k0_idx119_inb : ∀ (v43 : IVec S16 32) (v97 : IVec S16 32) (k0_hw136 : k0_chk136 v43 v97), ∀ a x, ((![v43, v97] : Fin 2 → IVec S16 32) a x).toNat < S512x64.size a := fun v43 v97 k0_hw136 => k0_hw136

def k0_chk137 (v43 : IVec S16 32) (v98 : IVec S16 32) : Prop :=
  (∀ a x, ((![v43, v98] : Fin 2 → IVec S16 32) a x).toNat < S512x64.size a)
theorem k0_idx120_inb : ∀ (v43 : IVec S16 32) (v98 : IVec S16 32) (k0_hw137 : k0_chk137 v43 v98), ∀ a x, ((![v43, v98] : Fin 2 → IVec S16 32) a x).toNat < S512x64.size a := fun v43 v98 k0_hw137 => k0_hw137

def k0_chk138 (v43 : IVec S16 32) (v99 : IVec S16 32) : Prop :=
  (∀ a x, ((![v43, v99] : Fin 2 → IVec S16 32) a x).toNat < S512x64.size a)
theorem k0_idx121_inb : ∀ (v43 : IVec S16 32) (v99 : IVec S16 32) (k0_hw138 : k0_chk138 v43 v99), ∀ a x, ((![v43, v99] : Fin 2 → IVec S16 32) a x).toNat < S512x64.size a := fun v43 v99 k0_hw138 => k0_hw138

def k0_chk139 (v43 : IVec S16 32) (v100 : IVec S16 32) : Prop :=
  (∀ a x, ((![v43, v100] : Fin 2 → IVec S16 32) a x).toNat < S512x64.size a)
theorem k0_idx122_inb : ∀ (v43 : IVec S16 32) (v100 : IVec S16 32) (k0_hw139 : k0_chk139 v43 v100), ∀ a x, ((![v43, v100] : Fin 2 → IVec S16 32) a x).toNat < S512x64.size a := fun v43 v100 k0_hw139 => k0_hw139

def k0_chk140 (v43 : IVec S16 32) (v101 : IVec S16 32) : Prop :=
  (∀ a x, ((![v43, v101] : Fin 2 → IVec S16 32) a x).toNat < S512x64.size a)
theorem k0_idx123_inb : ∀ (v43 : IVec S16 32) (v101 : IVec S16 32) (k0_hw140 : k0_chk140 v43 v101), ∀ a x, ((![v43, v101] : Fin 2 → IVec S16 32) a x).toNat < S512x64.size a := fun v43 v101 k0_hw140 => k0_hw140

def k0_chk141 (v43 : IVec S16 32) (v102 : IVec S16 32) : Prop :=
  (∀ a x, ((![v43, v102] : Fin 2 → IVec S16 32) a x).toNat < S512x64.size a)
theorem k0_idx124_inb : ∀ (v43 : IVec S16 32) (v102 : IVec S16 32) (k0_hw141 : k0_chk141 v43 v102), ∀ a x, ((![v43, v102] : Fin 2 → IVec S16 32) a x).toNat < S512x64.size a := fun v43 v102 k0_hw141 => k0_hw141

def k0_chk142 (v43 : IVec S16 32) (v103 : IVec S16 32) : Prop :=
  (∀ a x, ((![v43, v103] : Fin 2 → IVec S16 32) a x).toNat < S512x64.size a)
theorem k0_idx125_inb : ∀ (v43 : IVec S16 32) (v103 : IVec S16 32) (k0_hw142 : k0_chk142 v43 v103), ∀ a x, ((![v43, v103] : Fin 2 → IVec S16 32) a x).toNat < S512x64.size a := fun v43 v103 k0_hw142 => k0_hw142

def k0_chk143 (v43 : IVec S16 32) (v104 : IVec S16 32) : Prop :=
  (∀ a x, ((![v43, v104] : Fin 2 → IVec S16 32) a x).toNat < S512x64.size a)
theorem k0_idx126_inb : ∀ (v43 : IVec S16 32) (v104 : IVec S16 32) (k0_hw143 : k0_chk143 v43 v104), ∀ a x, ((![v43, v104] : Fin 2 → IVec S16 32) a x).toNat < S512x64.size a := fun v43 v104 k0_hw143 => k0_hw143

def k0_chk144 (v43 : IVec S16 32) (v105 : IVec S16 32) : Prop :=
  (∀ a x, ((![v43, v105] : Fin 2 → IVec S16 32) a x).toNat < S512x64.size a)
theorem k0_idx127_inb : ∀ (v43 : IVec S16 32) (v105 : IVec S16 32) (k0_hw144 : k0_chk144 v43 v105), ∀ a x, ((![v43, v105] : Fin 2 → IVec S16 32) a x).toNat < S512x64.size a := fun v43 v105 k0_hw144 => k0_hw144

def k0_chk145 (v43 : IVec S16 32) (v106 : IVec S16 32) : Prop :=
  (∀ a x, ((![v43, v106] : Fin 2 → IVec S16 32) a x).toNat < S512x64.size a)
theorem k0_idx128_inb : ∀ (v43 : IVec S16 32) (v106 : IVec S16 32) (k0_hw145 : k0_chk145 v43 v106), ∀ a x, ((![v43, v106] : Fin 2 → IVec S16 32) a x).toNat < S512x64.size a := fun v43 v106 k0_hw145 => k0_hw145

def k0_chk146 (v43 : IVec S16 32) (v107 : IVec S16 32) : Prop :=
  (∀ a x, ((![v43, v107] : Fin 2 → IVec S16 32) a x).toNat < S512x64.size a)
theorem k0_idx129_inb : ∀ (v43 : IVec S16 32) (v107 : IVec S16 32) (k0_hw146 : k0_chk146 v43 v107), ∀ a x, ((![v43, v107] : Fin 2 → IVec S16 32) a x).toNat < S512x64.size a := fun v43 v107 k0_hw146 => k0_hw146
def k0_off39 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_27_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== Reference.lean ====
abbrev S16384 : Shape := ⟨1, ![16384]⟩
abbrev S1000000x64 : Shape := ⟨2, ![1000000, 64]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x64 : Shape := ⟨2, ![16384, 64]⟩

abbrev nBuf : Space → Nat
  | .hbm => 37
  | .vmem => 0
  | .smem => 0
  | _ => 0

abbrev bufTy : (tb : Table) → Fin (tcTables nBuf tb) → BufTy
  | .hbm, ⟨0, _⟩ => ⟨S16384, .i32⟩
  | .hbm, ⟨1, _⟩ => ⟨S1000000x64, .f32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i1⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S1, .i32⟩
  | .hbm, ⟨18, _⟩ => ⟨S_, .i32⟩
  | .hbm, ⟨19, _⟩ => ⟨S16384x1, .i32⟩
  | .hbm, ⟨20, _⟩ => ⟨S16384x1, .i1⟩
  | .hbm, ⟨21, _⟩ => ⟨S1x1, .i32⟩
  | .hbm, ⟨22, _⟩ => ⟨S16384x1, .i32⟩
  | .hbm, ⟨23, _⟩ => ⟨S16384x1, .i1⟩
  | .hbm, ⟨24, _⟩ => ⟨S16384x1, .i1⟩
  | .hbm, ⟨25, _⟩ => ⟨S_, .i1⟩
  | .hbm, ⟨26, _⟩ => ⟨S16384, .i1⟩
  | .hbm, ⟨27, _⟩ => ⟨S16384x64, .f32⟩
  | .hbm, ⟨28, _⟩ => ⟨S16384x64, .i1⟩
  | .hbm, ⟨29, _⟩ => ⟨S_, .f32⟩
  | .hbm, ⟨30, _⟩ => ⟨S16384x64, .f32⟩
  | .hbm, ⟨31, _⟩ => ⟨S16384x64, .f32⟩
  | .hbm, ⟨32, _⟩ => ⟨S16384x1, .i1⟩
  | .hbm, ⟨33, _⟩ => ⟨S_, .f32⟩
  | .hbm, ⟨34, _⟩ => ⟨S16384x64, .f32⟩
  | .hbm, ⟨35, _⟩ => ⟨S16384x64, .i1⟩
  | .hbm, ⟨36, _⟩ => ⟨S16384x64, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_v2 : Ref sig .tc := ⟨.hbm, 8, rfl⟩
abbrev main_call1_c : Ref sig .tc := ⟨.hbm, 9, rfl⟩
abbrev main_call1_v0 : Ref sig .tc := ⟨.hbm, 10, rfl⟩
abbrev main_call1_v1 : Ref sig .tc := ⟨.hbm, 11, rfl⟩
abbrev main_call1_c_0 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_call1_v5 : Ref sig .tc := ⟨.hbm, 16, rfl⟩
abbrev main_call1_c_1 : Ref sig .tc := ⟨.hbm, 17, rfl⟩
abbrev main_call1_c_2 : Ref sig .tc := ⟨.hbm, 18, rfl⟩
abbrev main_call1_v6 : Ref sig .tc := ⟨.hbm, 19, rfl⟩
abbrev main_call1_v7 : Ref sig .tc := ⟨.hbm, 20, rfl⟩
abbrev main_call1_v8 : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_3 : Ref sig .tc := ⟨.hbm, 25, rfl⟩
abbrev main_call1_v12 : Ref sig .tc := ⟨.hbm, 26, rfl⟩
abbrev main_call1_v13 : Ref sig .tc := ⟨.hbm, 27, rfl⟩
abbrev main_call1_v14 : Ref sig .tc := ⟨.hbm, 28, rfl⟩
abbrev main_call1_cst : Ref sig .tc := ⟨.hbm, 29, rfl⟩
abbrev main_call1_v15 : Ref sig .tc := ⟨.hbm, 30, rfl⟩
abbrev main_v3 : Ref sig .tc := ⟨.hbm, 31, rfl⟩
abbrev main_v4 : Ref sig .tc := ⟨.hbm, 32, rfl⟩
abbrev main_cst : Ref sig .tc := ⟨.hbm, 33, rfl⟩
abbrev main_v5 : Ref sig .tc := ⟨.hbm, 34, rfl⟩
abbrev main_call2_v0 : Ref sig .tc := ⟨.hbm, 35, rfl⟩
abbrev main_v6 : Ref sig .tc := ⟨.hbm, 36, rfl⟩

abbrev nD : Nat := 1
abbrev τ : Topo := Topo.v7x

variable {F : FTy → Type} [FloatOps F]
-- ==== Proof.Lanes.lean ====
module

public import proofs.«01_k».proof.Defs
public import proofs.«01_k».proof.Proof.Gen.KernelIdeal
public import proofs.«01_k».proof.Proof.Gen.KernelIdeal.Skeleton

/-! Words, lanes and counting: what the running sum and the masked scatter of one trip compute, stated over a
sequence of words `x : ℕ → BitVec 32` of which the kernel reads sixteen at a time. -/

@[expose] public section

noncomputable section

namespace Cert.Proof.Lanes

open Cert.KernelIdeal Cert.KernelIdeal.Gen Idealize.ShloMosaic

variable {F : FTy → Type} [FloatOps F]

/-! ## The masked scatter -/

section Scatter

variable {s : Shape} {e : EltTy} {d : Fin 1 → Nat} (f : Vec F s e) (idxs : Fin s.rank → IVec ⟨1, d⟩ 32)
  (v : Vec F ⟨1, d⟩ e) (mask : IVec ⟨1, d⟩ 1) (h : ∀ a x, (idxs a x).toNat < s.size a)

/-- Lane `k` of the scatter is switched on and names the element `j`. -/
def Hits (k : Fin (d 0)) (j : s.Idx) : Prop :=
  mask (Shape.ofLane k) = 1 ∧ ∀ a, (j a).val = (idxs a (Shape.ofLane k)).toNat

/-- An element no lane names keeps its value. -/
theorem storeIdx_miss (j : s.Idx) (hm : ∀ k, ¬ Hits idxs mask k j) : storeIdx f idxs v mask false h j = f j := by
  unfold storeIdx
  generalize List.finRange (d 0) = l
  induction l using List.reverseRecOn with
  | nil => rfl
  | append_singleton l a ih =>
    rw [List.foldl_append, List.foldl_cons, List.foldl_nil]
    by_cases hk : mask (Shape.ofLane a) = 1
    · have hj : ¬ ∀ x, (j x).val = (idxAt idxs h (Shape.ofLane a) x).val := fun hh => hm a ⟨hk, hh⟩
      simp only [if_pos hk, if_neg hj]
      exact ih
    · simp only [if_neg hk]
      exact ih

/-- An element some lane names holds that lane's value, if all lanes naming it agree. -/
theorem storeIdx_hit (j : s.Idx) (k : Fin (d 0)) (hk : Hits idxs mask k j)
    (hu : ∀ k', Hits idxs mask k' j → v (Shape.ofLane k') = v (Shape.ofLane k)) :
    storeIdx f idxs v mask false h j = v (Shape.ofLane k) := by
  unfold storeIdx
  have hmem : k ∈ List.finRange (d 0) := List.mem_finRange k
  revert hmem
  generalize List.finRange (d 0) = l
  induction l using List.reverseRecOn with
  | nil => intro hm; simp at hm
  | append_singleton l a ih =>
    intro hm
    rw [List.foldl_append, List.foldl_cons, List.foldl_nil]
    by_cases ha : Hits idxs mask a j
    · have hj : ∀ x, (j x).val = (idxAt idxs h (Shape.ofLane a) x).val := ha.2
      simp only [if_pos ha.1, if_pos hj, if_neg Bool.false_ne_true]
      exact hu a ha
    · have ih' := ih (by simpa [show k ≠ a from fun hka => ha (hka ▸ hk)] using hm)
      by_cases hk' : mask (Shape.ofLane a) = 1
      · have hj : ¬ ∀ x, (j x).val = (idxAt idxs h (Shape.ofLane a) x).val := fun hh => ha ⟨hk', hh⟩
        simp only [if_pos hk', if_neg hj]
        exact ih'
      · simp only [if_neg hk']
        exact ih'

end Scatter

/-! ## The running sum -/

/-- Lane `l` of sixteen, as an index. -/
def lane (l : Fin 16) : S16.Idx := Shape.ofLane (d := ![16]) l

/-- Lane `l`'s index is `l`. -/
theorem lane_val (l : Fin 16) : (lane l 0).val = l.val := rfl

/-- Every index of sixteen is a lane. -/
theorem lane_eq (i : S16.Idx) : ∃ l, i = lane l := by
  refine ⟨i 0, ?_⟩
  funext a; obtain rfl := Fin.eq_zero a; rfl

/-- The lanes after the first, up to lane `j`. -/
def upTo (j : Fin 16) : List (Fin 16) := (List.finRange 16).filter fun k => decide (0 < k.val ∧ k.val ≤ j.val)

/-- The running sum, as a fold over the lanes up to its own. -/
theorem scan_eq (v : IVec S16 32) (l : Fin 16) : scan .sum v (lane l)
    = (upTo l).foldl (fun r k => r + v (lane k)) (v (lane 0)) := rfl

/-- The running sum at the first lane is that lane. -/
theorem scan_zero (v : IVec S16 32) : scan .sum v (lane 0) = v (lane 0) := by
  rw [scan_eq, show upTo 0 = [] by decide]
  rfl

/-- The running sum at the next lane adds that lane. -/
theorem scan_succ (v : IVec S16 32) (i : Fin 15) :
    scan .sum v (lane i.succ) = scan .sum v (lane i.castSucc) + v (lane i.succ) := by
  rw [scan_eq, scan_eq, (by decide : ∀ i : Fin 15, upTo i.succ = upTo i.castSucc ++ [i.succ]) i, List.foldl_append]
  rfl

/-! ## Counting the words out of the vocabulary -/

/-- The word is out of the vocabulary: at least a million. -/
abbrev Oov (w : BitVec 32) : Prop := 1000000 ≤ w.toNat

/-- The row a word asks for, row 0 for a word out of the vocabulary. -/
def safe (w : BitVec 32) : BitVec 32 := if Oov w then 0 else w

/-- The word that is looked up is in the vocabulary. -/
theorem safe_lt (w : BitVec 32) : (safe w).toNat < 1000000 := by
  unfold safe Oov; split
  · decide
  · omega

/-- How many of the first `m` words are out of the vocabulary. -/
def cnt (x : ℕ → BitVec 32) : ℕ → ℕ
  | 0 => 0
  | m + 1 => cnt x m + if Oov (x m) then 1 else 0

variable (x : ℕ → BitVec 32)

/-- Among `m` words at most `m` are out of the vocabulary. -/
theorem cnt_le (m : ℕ) : cnt x m ≤ m := by
  induction m with
  | zero => exact le_rfl
  | succ m ih => simp only [cnt]; split <;> omega

/-- The count grows with the number of words. -/
theorem cnt_mono {a b : ℕ} (hab : a ≤ b) : cnt x a ≤ cnt x b := by
  induction b, hab using Nat.le_induction with
  | base => exact le_rfl
  | succ m _ ih => simp only [cnt]; omega

/-- A counted word's slot is below the count. -/
theorem cnt_lt {j m : ℕ} (hj : j < m) (ho : Oov (x j)) : cnt x j < cnt x m := by
  have h1 : cnt x (j + 1) ≤ cnt x m := cnt_mono x hj
  have h2 : cnt x (j + 1) = cnt x j + 1 := by simp only [cnt]; rw [if_pos ho]
  omega

/-- Two counted words have different slots. -/
theorem cnt_inj {j j' : ℕ} (ho : Oov (x j)) (ho' : Oov (x j')) (he : cnt x j = cnt x j') : j = j' := by
  rcases lt_trichotomy j j' with hl | hl | hl
  · have := cnt_lt x hl ho; omega
  · exact hl
  · have := cnt_lt x hl ho'; omega

/-- Every slot below the count belongs to a counted word. -/
theorem cnt_surj {p m : ℕ} (hp : p < cnt x m) : ∃ j, j < m ∧ Oov (x j) ∧ cnt x j = p := by
  induction m with
  | zero => simp [cnt] at hp
  | succ m ih =>
    by_cases hc : p < cnt x m
    · obtain ⟨j, h1, h2, h3⟩ := ih hc
      exact ⟨j, by omega, h2, h3⟩
    · simp only [cnt] at hp
      split at hp
      · rename_i ho
        exact ⟨m, by omega, ho, by omega⟩
      · omega

/-! ## One trip's sixteen words -/

/-- Sixteen words from position `b` on. -/
def chunk (b : ℕ) : S16.Idx → BitVec 32 := fun i => x (b + (i 0).val)

/-- The compares of the kernel, on a word that is not negative. -/
theorem slt_vocab {w : BitVec 32} (hw : w.toNat < 2 ^ 31) : w.slt 1000000#32 = decide (¬ Oov w) := by
  have h1 : (1000000#32 : BitVec 32).toInt = 1000000 := by decide
  rw [BitVec.slt_eq_decide, h1, BitVec.toInt_eq_toNat_of_lt (by omega)]
  exact decide_eq_decide.mpr (by unfold Oov; omega)

section Trip

variable (hx : ∀ p, (x p).toNat < 2 ^ 31) (b : ℕ)
include hx

/-- The mark of a word in the vocabulary: off exactly where the word is out of it. -/
theorem pay34_chunk (i : S16.Idx) : k0_pay34 (F := F) (chunk x b) i = if Oov (x (b + (i 0).val)) then 0 else 1 := by
  show BitVec.ofBool ((x (b + (i 0).val)).slt 1000000#32) = _
  rw [slt_vocab (hx _)]
  by_cases ho : Oov (x (b + (i 0).val)) <;> simp [ho]

/-- The scatter's mask: on exactly where the word is out of the vocabulary. -/
theorem pay38_chunk (i : S16.Idx) : k0_pay38 (F := F) (chunk x b) i = if Oov (x (b + (i 0).val)) then 1 else 0 := by
  show BitVec.ofBool ((1000000#32 : BitVec 32).sle (x (b + (i 0).val))) = _
  rw [BitVec.sle_eq_not_slt, slt_vocab (hx _)]
  by_cases ho : Oov (x (b + (i 0).val)) <;> simp [ho]

/-- The word that is looked up, lane by lane. -/
theorem pay35_chunk (i : S16.Idx) : k0_pay35 (F := F) (chunk x b) i = safe (x (b + (i 0).val)) := by
  show (if k0_pay34 (F := F) (chunk x b) i = 1 then chunk x b i else 0#32) = _
  rw [pay34_chunk x hx]
  by_cases ho : Oov (x (b + (i 0).val)) <;> simp [ho, safe, chunk]

/-- The tile number, lane by lane: the word shifted right by three. -/
theorem pay36_chunk (i : S16.Idx) : k0_pay36 (F := F) (chunk x b) i = safe (x (b + (i 0).val)) >>> 3 := by
  rw [← pay35_chunk (F := F) x hx]
  rfl

/-- The row in the tile, lane by lane: the word's last three bits. -/
theorem pay37_chunk (i : S16.Idx) : k0_pay37 (F := F) (chunk x b) i = safe (x (b + (i 0).val)) &&& 7#32 := by
  rw [← pay35_chunk (F := F) x hx]
  rfl

/-- The number that is summed, lane by lane: one where the word is out of the vocabulary, zero elsewhere. -/
theorem pay39_chunk (i : S16.Idx) : k0_pay39 (F := F) (chunk x b) i = BitVec.ofNat 32 (if Oov (x (b + (i 0).val)) then 1 else 0) := by
  show (if k0_pay34 (F := F) (chunk x b) i = 1 then 0#32 else 1#32) = _
  rw [pay34_chunk x hx]
  by_cases ho : Oov (x (b + (i 0).val)) <;> simp [ho]

/-- The running sum counts: added to the count before the trip, it is the count up to and with its lane. -/
theorem scan_chunk (l : Fin 16) :
    BitVec.ofNat 32 (cnt x b) + scan .sum (k0_pay39 (F := F) (chunk x b)) (lane l) = BitVec.ofNat 32 (cnt x (b + l.val + 1)) := by
  induction l using Fin.induction with
  | zero =>
    rw [scan_zero, pay39_chunk x hx]
    show _ = BitVec.ofNat 32 (cnt x (b + 0 + 1))
    rw [← BitVec.ofNat_add]
    rfl
  | succ i ih =>
    rw [scan_succ, ← BitVec.add_assoc, ih, pay39_chunk x hx, ← BitVec.ofNat_add]
    rfl

/-- The slot a counted lane writes is the count before its word; a lane not counted names slot 0. -/
theorem pay40_chunk (i : S16.Idx) : k0_pay40 (F := F) (BitVec.ofNat 32 (cnt x b)) (chunk x b) i
    = if Oov (x (b + (i 0).val)) then BitVec.ofNat 32 (cnt x (b + (i 0).val)) else 0 := by
  obtain ⟨l, rfl⟩ := lane_eq i
  show (if k0_pay38 (F := F) (chunk x b) (lane l) = 1 then
      BitVec.ofNat 32 (cnt x b) + scan .sum (k0_pay39 (F := F) (chunk x b)) (lane l) - 1#32 else 0#32) = _
  rw [pay38_chunk x hx, scan_chunk x hx, lane_val]
  by_cases ho : Oov (x (b + l.val))
  · rw [if_pos ho, if_pos ho, if_pos rfl]
    simp only [cnt]
    rw [if_pos ho, BitVec.ofNat_add]
    exact BitVec.add_sub_cancel _ _
  · rw [if_neg ho, if_neg ho, if_neg (by decide)]
    rfl

end Trip

end Cert.Proof.Lanes
-- ==== Proof.Setup.lean ====
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Value
public import Idealize.ShloMosaic.Lib.Batch
public import Idealize.ShloMosaic.Lib.Tactic
public import proofs.«01_k».proof.Proof.Lanes

/-! The program as the launch theorem sees it, the buffers by name, and the steps of a subcore's program on its own
buffers: a load, a store and a scatter, each by the whole buffer's contents before and after. -/

@[expose] public section

noncomputable section

namespace Cert.Proof.Setup

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
/-- The call runs on sixteen subcores of a core. -/
theorem nSub_zero : (K (F := F)).nSub 0 = 16 := rfl
/-- The call runs on two cores. -/
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the call's semaphores, buffers and numbers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

/-- The resources the proof is stated over: the memory's, the semaphores', the handshakes' and the transfers'. -/
abbrev MM (F : FTy → Type) : Type := MT nD τ sig (HIx 1) (Elt F) ℕ UU ℕ

local notation "𝕄" => MT nD τ sig (HIx 1) (Elt F) ℕ UU ℕ

abbrev EH : Emb UH (MT nD τ sig (HIx 1) (Elt F) ℕ UU ℕ) := embL

/-! ## The subcore -/

abbrev cV (L : grid0.Coords) : Fin τ.nSC := (L 0).castLE hcore0
abbrev jV (L : grid0.Coords) : Fin τ.nSub := (L 1).castLE hsub0
/-- The subcore at the grid coordinates `L` of device `d`. -/
abbrev thr (d : Dev nD) (L : grid0.Coords) : Thread nD τ := V d (cV L) (jV L)

abbrev wV : Memref sig .scVector .hbm S16384 .i32 := Memref.whole main_arg0_scv
abbrev tV : Memref sig .scVector .hbm S125000x8x64 .f32 := Memref.whole main_v0_scv
abbrev oV : Memref sig .scVector .hbm S16384x64 .f32 := Memref.whole main_v1_scv
abbrev s5 : Memref sig .scVector .vmem S512 .i32 := Memref.whole cc0_scratch0
abbrev s6 : Memref sig .scVector .vmem S512 .i32 := Memref.whole cc0_scratch1
abbrev s7 : Memref sig .scVector .vmem S512 .i32 := Memref.whole cc0_scratch2
abbrev s8 : Memref sig .scVector .vmem S528 .i32 := Memref.whole cc0_scratch3
abbrev s9 : Memref sig .scVector .vmem S512x64 .f32 := Memref.whole cc0_scratch4

variable [FloatOps F] (d : Dev nD) (L : grid0.Coords)

/-! ## One step on a buffer of the subcore's own -/

section Steps

variable {α : Type} {Q : α → sProp (MM F)} {Es : Set ℕ}

variable {s : Shape} {e : EltTy} (m : Memref sig .scVector .vmem s e)

/-- A load, the buffer held whole. -/
theorem wp_loadM {r : LoadRect s} {hl : m.view.LoadsAt r}
    {k : (r.shape.Idx → Elt F e) → Prog (TpuEff nD τ sig (Elt F) Λ₀ (thr d L).2) α} {q : PosShare TreeShare} {f : Buf (Elt F) (m.view.loc (thr d L))} :
    (m.view.loc (thr d L) ↦{q} f : sProp 𝕄)
      ⊢ iprop(((m.view.loc (thr d L) ↦{q} f) -∗ wp frame (wpE (defs₀ (F := F)) 𝒱₀ (thr d L) none) Es (k (m.view.readAt (Elt F) r f)) Q)
        -∗ wp frame (wpE (defs₀ (F := F)) 𝒱₀ (thr d L) none) Es (.op (.load m r hl) k) Q) :=
  wp_load (m := m) (S := Finset.univ) 𝒱₀ (thr d L) none Es (Finset.subset_univ _)

/-- A store of a rectangle, the buffer held whole. -/
theorem wp_storeM {r : Rect s} {w : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ (thr d L).2) α} {f : Buf (Elt F) (m.view.loc (thr d L))} :
    (m.view.loc (thr d L) ↦{fullShare} f : sProp 𝕄)
      ⊢ iprop(((m.view.loc (thr d L) ↦{fullShare} (m.access r).write (Elt F) f w Finset.univ) -∗ wp frame (wpE (defs₀ (F := F)) 𝒱₀ (thr d L) none) Es (k ⟨⟩) Q)
        -∗ wp frame (wpE (defs₀ (F := F)) 𝒱₀ (thr d L) none) Es (.op (.store m r w Finset.univ hx hm) k) Q) :=
  wp_store (m := m) (r := r) (Mk := Finset.univ) (S := Finset.univ) 𝒱₀ (thr d L) none Es (Finset.subset_univ _)

omit [FloatOps F] in
/-- What the memref reads as after a write of its whole rectangle, and before. -/
theorem read_write_whole (f : m.view.ty.Contents (Elt F)) (w : s.Idx → Elt F e) :
    m.view.read (Elt F) ((m.access (.whole s)).write (Elt F) f w Finset.univ) = w := by
  funext i
  have h := View.read_slice_write_emb (v := m.view) (Rect.whole s) f w (Finset.mem_univ i)
  rw [Rect.emb_whole_apply] at h
  exact h

omit [FloatOps F] in
/-- Reading all of a view is reading the view. -/
theorem read_whole_access (f : m.view.ty.Contents (Elt F)) : (m.access (.whole s)).read (Elt F) f = m.view.read (Elt F) f := by
  funext i
  show m.view.read (Elt F) f ((Rect.whole s).emb i) = _
  rw [Rect.emb_whole_apply]

/-- A scatter into a memref whose elements are its whole buffer's: it reads as the scatter of what it read as. -/
theorem wp_scatterM (hm : (m.access (.whole s)).set = Finset.univ) {ds : Fin 1 → Nat} {idxs : Fin s.rank → IVec ⟨1, ds⟩ 32} {v : Vec F ⟨1, ds⟩ e}
    {mask : IVec ⟨1, ds⟩ 1} {h : ∀ a x, (idxs a x).toNat < s.size a} {hs : (m.access (.whole s)).Stores Finset.univ}
    {k : PUnit → Prog (TpuEff nD τ sig (Elt F) Λ₀ (thr d L).2) α} {f : Buf (Elt F) (m.view.loc (thr d L))} :
    (m.view.loc (thr d L) ↦{fullShare} f : sProp 𝕄)
      ⊢ iprop((∀ f' : Buf (Elt F) (m.view.loc (thr d L)), ⌜m.view.read (Elt F) f' = storeIdx (m.view.read (Elt F) f) idxs v mask false h⌝ -∗
            (m.view.loc (thr d L) ↦{fullShare} f') -∗ wp frame (wpE (defs₀ (F := F)) 𝒱₀ (thr d L) none) Es (k ⟨⟩) Q)
        -∗ wp frame (wpE (defs₀ (F := F)) 𝒱₀ (thr d L) none) Es (SparseCore.vectorStoreIdx m idxs v mask false h hs >>= k) Q) := by
  have h0 := SparseCore.wp_vectorStoreIdx (defs := defs₀ (F := F)) (Name := ℕ) (U := UU) 𝒱₀ (thr d L) none Es (base := m) (idxs := idxs) (v := v) (mask := mask) (add := false)
    (h := h) (hs := hs) (k := k) (f := f) (Q := Q)
  rw [hm, read_whole_access] at h0
  iintro H Hk
  iapply h0 $$ H
  iintro H
  ispecialize Hk $$ %_ %(read_write_whole m f _) H
  iexact Hk

end Steps

end Cert.Proof.Setup

end
-- ==== Proof.Pieces.lean ====
module

public import proofs.«01_k».proof.Proof.Setup

/-! What one access of a rectangle of a whole tile buffer reads or leaves, element by element. -/

@[expose] public section

noncomputable section

namespace Cert.Proof.Pieces

open Cert.KernelIdeal Cert.KernelIdeal.Gen Cert.Proof.Lanes Cert.Proof.Setup
open Idealize.ShloMosaic

variable {F : FTy → Type}

/-- The place of lane `l` of a rectangle. -/
theorem emb_val {s : Shape} (off size : Fin s.rank → ℕ) (inb) (j : (Rect.unit off size inb).shape.Idx) (a : Fin s.rank) :
    ((Rect.unit off size inb).emb j a).val = off a + (j a).val := by
  rw [Rect.emb_apply]; show off a + 1 * (j a).val = _; rw [one_mul]

/-- Sixteen words loaded at `b` from a list of words. -/
theorem read_seq {dd : Fin 1 → ℕ} (v : View sig .scVector .vmem ⟨1, dd⟩ .i32) (f : v.ty.Contents (Elt F)) (x : ℕ → BitVec 32) (b : ℕ) (off : Fin 1 → ℕ) (inb : ∀ a, off a + S16.size a ≤ dd a) (ho : off = ![b])
    (hf : ∀ i : (⟨1, dd⟩ : Shape).Idx, (i 0).val < b + 16 → v.read (Elt F) f i = x (i 0).val) :
    v.readAt (Elt F) (Rect.unit (s := ⟨1, dd⟩) off S16.size inb).toLoadRect f = chunk x b := by
  subst ho
  funext l
  show v.read (Elt F) f ((Rect.unit (s := ⟨1, dd⟩) ![b] S16.size inb).emb l) = x (b + (l 0).val)
  have hv := emb_val (s := ⟨1, dd⟩) ![b] S16.size inb l 0
  rw [hf, hv]
  · rfl
  · rw [hv]; exact Nat.add_lt_add_left (l 0).isLt b

section Words

variable {Val : EltTy → Type} (v : View sig .scVector .vmem S512 .i32) (f : v.ty.Contents (Elt F))

/-- Storing sixteen correct words after `b` correct ones leaves `b + 16` correct ones. -/
theorem write_seq (y : ℕ → BitVec 32) (b : ℕ) (off : Fin 1 → ℕ) (inb : ∀ a, off a + S16.size a ≤ S512.size a) (ho : off = ![b])
    (w : S16.Idx → BitVec 32) (hw : ∀ l, w l = y (b + (l 0).val))
    (hf : ∀ i : S512.Idx, (i 0).val < b → v.read (Elt F) f i = y (i 0).val) (i : S512.Idx) (hi : (i 0).val < b + 16) :
    v.read (Elt F) ((v.slice (Rect.unit (s := S512) off S16.size inb)).write (Elt F) f w Finset.univ) i = y (i 0).val := by
  subst ho
  by_cases h : (i 0).val < b
  · refine (View.read_slice_write_of_not_mem _ _ _ _ fun hm => ?_).trans (hf i h)
    obtain ⟨l, -, rfl⟩ := Finset.mem_map.mp hm
    have hv := emb_val (s := S512) ![b] S16.size inb l 0
    rw [hv] at h
    exact absurd h (by simp)
  · obtain ⟨l, rfl⟩ : ∃ l : S16.Idx, i = (Rect.unit (s := S512) ![b] S16.size inb).emb l := by
      refine ⟨lane ⟨(i 0).val - b, by omega⟩, ?_⟩
      funext a
      obtain rfl := Fin.eq_zero a
      refine Fin.ext ?_
      have hv := emb_val (s := S512) ![b] S16.size inb (lane ⟨(i 0).val - b, by omega⟩) 0
      refine Eq.trans ?_ hv.symm
      show (i 0).val = b + ((i 0).val - b)
      omega
    refine (View.read_slice_write_emb (Rect.unit (s := S512) ![b] S16.size inb) f w (Finset.mem_univ l)).trans ?_
    have hv := emb_val (s := S512) ![b] S16.size inb l 0
    refine (hw l).trans (congrArg y ?_)
    exact hv.symm

end Words

end Cert.Proof.Pieces

end
-- ==== Proof.Rows.lean ====
module

public import proofs.«01_k».proof.Proof.Pieces

/-! The rows the tile fetches: the view of one row of the tile's block, the view of one row of the table, what a copy of the
one into the other leaves, and the sixteen semaphores' batches of such copies. -/

@[expose] public section

noncomputable section

namespace Cert.Proof.Rows

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Batch pending issued)
open Idealize.ShloMosaic.SparseCore.Cfg (HIx)
open Cert.Proof.Lanes Cert.Proof.Setup

variable {F : FTy → Type} [FloatOps F]

local notation "𝕄" => MT nD τ sig (HIx 1) (Elt F) ℕ UU ℕ

/-! ## The views -/

/-- One row of the tile's block, as a list of 64 floats. -/
abbrev dstM (off : Fin S512x64.rank → ℕ) (inb : ∀ a, off a + S1x64.size a ≤ S512x64.size a) : Memref sig .scVector .vmem S64 .f32 :=
  (s9.slice (Rect.unit (s := S512x64) off S1x64.size inb) (fun _ => rfl)).squeeze S64 squeezes_S1x64_S64

/-- One row of the table of tiles, as a list of 64 floats. -/
abbrev srcM (off : Fin S125000x8x64.rank → ℕ) (inb : ∀ a, off a + S1x1x64.size a ≤ S125000x8x64.size a) : Memref sig .scVector .hbm S64 .f32 :=
  (tV.slice (Rect.unit (s := S125000x8x64) off S1x1x64.size inb) (fun _ => rfl)).squeeze S64 squeezes_S1x1x64_S64

/-- The elements of row `j` of the block. -/
def rowSet (j : ℕ) : Finset S512x64.Idx := Finset.univ.filter fun i => (i 0).val = j

/-- An element is in row `j` if its first index is `j`. -/
theorem mem_rowSet (j : ℕ) (i : S512x64.Idx) : i ∈ rowSet j ↔ (i 0).val = j := by simp [rowSet]

/-- The elements of a copy's destination are one row of the block. -/
theorem dst_set (off inb) (j : ℕ) (h : off = ![j, 0]) : (dstM off inb).view.set = rowSet j := by
  subst h
  show ((s9.view.slice _).reshape S64 _).set = _
  rw [View.set_reshape]
  refine (View.set_slice_whole _ _).trans ?_
  ext i
  rw [Rect.mem_set_unit, mem_rowSet]
  constructor
  · intro h
    have := h 0
    simp [S1x64] at this
    omega
  · intro h a
    have h1 : (i 1).val < 64 := (i 1).isLt
    match a with
    | 0 => exact ⟨h.ge, by show (i 0).val < j + 1; omega⟩
    | 1 => exact ⟨Nat.zero_le _, by show (i 1).val < 0 + 64; omega⟩

/-- Column `c` of a row of one, from the list of 64. -/
def ix2 (c : Fin 64) : S1x64.Idx := fun a => match a with | 0 => (0 : Fin 1) | 1 => c
def ix3 (c : Fin 64) : S1x1x64.Idx := fun a => match a with | 0 => (0 : Fin 1) | 1 => (0 : Fin 1) | 2 => c

/-- The list of 64 read as a row of one. -/
theorem resh2 (h : S64.numel = S1x64.numel) (y : S64.Idx) : Shape.reshapeEquiv h y = ix2 (y 0) :=
  Shape.reshapeEquiv_eq_of_rowMajor h (by
    rw [Shape.rowMajor_val_one]
    refine (Shape.rowMajor_val_two (d := ![1, 64]) (ix2 (y 0))).trans ?_
    simp [ix2])

/-- The list of 64 read as a row of one in a tile of one. -/
theorem resh3 (h : S64.numel = S1x1x64.numel) (y : S64.Idx) : Shape.reshapeEquiv h y = ix3 (y 0) :=
  Shape.reshapeEquiv_eq_of_rowMajor h (by
    rw [Shape.rowMajor_val_one]
    refine (Shape.rowMajor_val_three (d := ![1, 1, 64]) (ix3 (y 0))).trans ?_
    simp [ix3])

/-- Where an element of the destination lies in the block. -/
theorem dst_emb (off inb) (y : S64.Idx) (a : Fin 2) : (((dstM off inb).view.emb y : S512x64.Idx) a).val = off a + (ix2 (y 0) a).val := by
  show (((Rect.unit (s := S512x64) off S1x64.size inb).emb (Shape.reshapeEquiv _ y)) a).val = _
  rw [resh2, Rect.emb_apply]
  simp

/-- Where an element of the source lies in the table. -/
theorem src_emb (off inb) (y : S64.Idx) (a : Fin 3) : (((srcM off inb).view.emb y : S125000x8x64.Idx) a).val = off a + (ix3 (y 0) a).val := by
  show (((Rect.unit (s := S125000x8x64) off S1x1x64.size inb).emb (Shape.reshapeEquiv _ y)) a).val = _
  rw [resh3, Rect.emb_apply]
  simp

/-! ## What the block is to hold -/

/-- The element of the table of tiles in the row of the word `w` and column `c`. -/
def tIdx (w : BitVec 32) (c : Fin 64) : S125000x8x64.Idx := fun a => match a with
  | 0 => (⟨(safe w).toNat / 8, by have := safe_lt w; omega⟩ : Fin 125000)
  | 1 => (⟨(safe w).toNat % 8, by omega⟩ : Fin 8)
  | 2 => c

/-- The fetched block: row `j` is the table's row of the `j`-th word. -/
def G (T3 : S125000x8x64.Idx → F .f32) (x : ℕ → BitVec 32) : S512x64.Idx → F .f32 := fun i => T3 (tIdx (x (i 0).val) (i 1))

/-- Shifting right by three is dividing by eight. -/
theorem shr3 (w : BitVec 32) : (w >>> 3).toNat = w.toNat / 8 := by
  rw [BitVec.toNat_ushiftRight, Nat.shiftRight_eq_div_pow]

/-- The last three bits are the remainder by eight. -/
theorem and7 (w : BitVec 32) : (w &&& 7#32).toNat = w.toNat % 8 := by
  rw [BitVec.toNat_and]; exact Nat.and_two_pow_sub_one_eq_mod w.toNat 3

/-- A copy of the table's row of the word `x j` into row `j` leaves the fetched block's row. -/
theorem copy_row (T3 : S125000x8x64.Idx → F .f32) (x : ℕ → BitVec 32) (offS inbS offD inbD) (j : ℕ)
    (eS : offS = ![(safe (x j) >>> 3).toNat, (safe (x j) &&& 7#32).toNat, 0]) (eD : offD = ![j, 0])
    (fd : S512x64.Idx → F .f32) (i : S512x64.Idx) (hi : i ∈ rowSet j) :
    (dstM offD inbD).view.write (Elt F) fd ((srcM offS inbS).view.read (Elt F) T3) Finset.univ i = G T3 x i := by
  have hi' := hi
  rw [← dst_set offD inbD j eD] at hi
  obtain ⟨y, -, rfl⟩ := Finset.mem_map.mp hi
  rw [mem_rowSet] at hi'
  refine (View.write_emb_of_mem (Val := Elt F) (v := (dstM offD inbD).view) fd _ (Finset.mem_univ y)).trans ?_
  show T3 ((srcM offS inbS).view.emb y) = T3 _
  congr 1
  funext a
  apply Fin.ext
  refine (src_emb offS inbS y a).trans ?_
  subst eS eD
  have h1 := dst_emb _ inbD y 1
  match a with
  | 0 => show (safe (x j) >>> 3).toNat + 0 = (safe (x ((dstM _ inbD).view.emb y 0).val)).toNat / 8; rw [hi', shr3, Nat.add_zero]
  | 1 => show (safe (x j) &&& 7#32).toNat + 0 = (safe (x ((dstM _ inbD).view.emb y 0).val)).toNat % 8; rw [hi', and7, Nat.add_zero]
  | 2 => exact h1.symm

/-! ## The batches -/

variable (d : Dev nD) (L : grid0.Coords)

/-- The `k`-th of the sixteen semaphores. -/
def cell (k : Fin 16) : DmaSem sig := cc0_scratch5.ix (lane k)

/-- The credit of a row's copy. -/
def NB : ℕ := sig.dmaCredit .scVector (Kind.table .scVector .vmem) s9.view.buf S64 .f32

/-- A row's copy signals at least one unit. -/
theorem NB_pos : 0 < NB := sig.dmaCredit_pos _ _ _ _ _ (by decide)

/-- Row `j` of the block, holding what `f` does. -/
def rowPts (j : ℕ) (f : S512x64.Idx → F .f32) : sProp 𝕄 := s9.view.loc (thr d L) ↦[rowSet j]{fullShare} (f : Buf (Elt F) (s9.view.loc (thr d L)))

instance (j : ℕ) (f : S512x64.Idx → F .f32) : BI.Storable (upEmb : UEmb _ 𝕄) (rowPts d L j f) := by unfold rowPts; infer_instance

/-- The copies of semaphore `k`, `j` of the 32 issued and `u` units taken by waits. -/
def Bat (T3 : S125000x8x64.Idx → F .f32) (x : ℕ → BitVec 32) (k : Fin 16) (j u : ℕ) : sProp 𝕄 :=
  Batch countersEmb (thr d L) (SemLoc.dma (cell k)) (none : HIx 1) NB (fun t : Fin 32 => rowPts d L (16 * t.val + k.val) (G T3 x)) j u

/-- Semaphore `k` with its first `g` copies issued, and its rows not yet fetched. -/
def Lane (T3 : S125000x8x64.Idx → F .f32) (x : ℕ → BitVec 32) (fd : S512x64.Idx → F .f32) (g : ℕ) (k : Fin 16) : sProp 𝕄 :=
  iprop(Bat d L T3 x k g 0 ∗ bigSep (pending g) fun t : Fin 32 => rowPts d L (16 * t.val + k.val) fd)

/-- Sixteen things, the first `n` in their later state. -/
def Mid (Φ Ψ : Fin 16 → sProp 𝕄) (n : ℕ) : sProp 𝕄 := iprop(bigSep (pending n) Φ ∗ bigSep (issued n) Ψ)

omit [FloatOps F] in
/-- At first all sixteen are in their earlier state. -/
theorem mid_zero (Φ Ψ : Fin 16 → sProp 𝕄) : bigSep Finset.univ Φ ⊢ Mid Φ Ψ 0 := by
  unfold Mid
  rw [Transfers.issued_zero, ← Transfers.bigSep_pending_zero]
  iintro H
  isplitl
  · iexact H
  · rw [BI.bigSep_empty]; iempintro

omit [FloatOps F] in
/-- At last all sixteen are in their later state. -/
theorem mid_all (Φ Ψ : Fin 16 → sProp 𝕄) : Mid Φ Ψ 16 ⊢ bigSep Finset.univ Ψ := by
  unfold Mid
  rw [Transfers.issued_all (m := 16) rfl]
  iintro ⟨-, H⟩
  iexact H

omit [FloatOps F] in
/-- One of them taken out in its earlier state and put back in its later one. -/
theorem mid_step (Φ Ψ : Fin 16 → sProp 𝕄) (n : ℕ) (hn : n < 16) : Mid Φ Ψ n ⊢ iprop(Φ ⟨n, hn⟩ ∗ (Ψ ⟨n, hn⟩ -∗ Mid Φ Ψ (n + 1))) := by
  unfold Mid
  rw [Transfers.bigSep_pending_step _ n hn, Transfers.issued_succ hn, SparseCore.bigSep_insert' (Transfers.not_mem_issued hn)]
  iintro ⟨⟨H, Hp⟩, Hi⟩
  isplitl [H]; · iexact H
  iintro H
  isplitl [Hp]; · iexact Hp
  isplitl [H]; · iexact H
  iexact Hi

/-- Some share of the whole table of tiles. -/
def Tbl (T3 : S125000x8x64.Idx → F .f32) : sProp 𝕄 := iprop(∃ q : PosShare TreeShare, tV.view.loc (thr d L) ↦{q} (T3 : Buf (Elt F) (tV.view.loc (thr d L))))

variable {α : Type} {Q : α → sProp (MM F)}

/-- One row's copy issued. -/
theorem wp_issue (T3 : S125000x8x64.Idx → F .f32) (x : ℕ → BitVec 32) (fd : S512x64.Idx → F .f32) (g n : ℕ) (hg : g < 32) (hn : n < 16)
    {offS inbS offD inbD} {sm : DmaSem sig} {hs hd hk} {k : PUnit → Prog (TpuEff nD τ sig (Elt F) Λ₀ (thr d L).2) α}
    (eS : offS = ![(safe (x (16 * g + n)) >>> 3).toNat, (safe (x (16 * g + n)) &&& 7#32).toNat, 0]) (eD : offD = ![16 * g + n, 0])
    (esm : sm = cell ⟨n, hn⟩) :
    iprop(Tbl d L T3 ∗ Mid (Lane d L T3 x fd g) (Lane d L T3 x fd (g + 1)) n)
      ⊢ iprop((iprop(Tbl d L T3 ∗ Mid (Lane d L T3 x fd g) (Lane d L T3 x fd (g + 1)) (n + 1)) -∗ wp frame (wpE (defs₀ (F := F)) 𝒱₀ (thr d L) none) Set.univ (k ⟨⟩) Q)
        -∗ wp frame (wpE (defs₀ (F := F)) 𝒱₀ (thr d L) none) Set.univ
          (.op (.enqueueDma (srcM offS inbS) (.here (dstM offD inbD)) (.dma sm) hs hd hk) k) Q) := by
  subst esm
  unfold Tbl
  iintro ⟨⟨%q, HT⟩, HM⟩ Hk
  ihave HM := (mid_step _ _ n hn) $$ HM
  icases HM with ⟨HL, HM⟩
  unfold Lane
  icases HL with ⟨HB, HR⟩
  ihave HR := (Entails.of_eq (Transfers.bigSep_pending_step (n := 32) _ g hg)) $$ HR
  icases HR with ⟨Hr, HR⟩
  ihave HT := (pointsTo_share (PosShare.mem_left_op_right q)).1 $$ HT
  icases HT with ⟨HT, HT'⟩
  ihave HT' := (pointsTo_split_subset (Finset.subset_univ (srcM offS inbS).view.set)).1 $$ HT'
  icases HT' with ⟨HS, -⟩
  unfold Bat
  have hb := Transfers.wp_dmaBatch (defs := defs₀ (F := F)) (Name := ℕ) (U := UU) (Q := Q) (Lvl := ℕ) countersEmb 𝒱₀ (thr d L) none (src := srcM offS inbS) (via := .same)
    (dst := dstM offD inbD) (sm := .dma (cell ⟨n, hn⟩)) (hsrc := hs) (hdst := hd) (hsem := hk) (k := k)
    (Sd := rowSet (16 * g + n)) (fd := fd) (fs := T3) (D := fun t : Fin 32 => rowPts d L (16 * t.val + n) (G T3 x)) (j := g) (u := 0)
    (none : HIx 1) NB rfl (subset_of_eq (dst_set _ _ _ eD)) hg (Nat.zero_le _) (q := q.right) (by
      iintro ⟨H, -⟩
      unfold rowPts
      iapply (Entails.of_eq (pointsTo_congr fun i hi => copy_row T3 x offS inbS offD inbD _ eS eD fd i hi))
      iexact H)
  iapply hb $$ [HS Hr HB]
  · isplitl [HS]; · iexact HS
    isplitl [Hr]
    · unfold rowPts; iexact Hr
    · iexact HB
  iintro HB
  iapply Hk
  isplitl [HT]
  · iexists _; iexact HT
  iapply HM
  isplitl [HB]; · iexact HB
  iexact HR

end Cert.Proof.Rows

end
-- ==== Proof.T1.lean ====
module

public import proofs.«01_k».proof.Proof.Pieces

/-! The first loop: thirty-two trips, each splitting sixteen words into a tile number and a row in the tile, and
scattering the positions of the words out of the vocabulary to the slots the running sum gives them. -/

@[expose] public section

noncomputable section

namespace Cert.Proof.T1

open Cert.KernelIdeal Cert.KernelIdeal.Gen Cert.Proof.Lanes Cert.Proof.Setup Cert.Proof.Pieces
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (x : ℕ → BitVec 32)

/-- The slots hold the positions of the words out of the vocabulary among the first `b`, in order. -/
def Slots (b : ℕ) (f : S528.Idx → BitVec 32) : Prop :=
  ∀ j < b, Oov (x j) → ∀ i : S528.Idx, (i 0).val = cnt x j → f i = BitVec.ofNat 32 j

/-- The positions of trip `g`: lane `l` stands at `16 g + l`. -/
theorem pay41_lane (g : Fin k0_t1_loop.trips) (l : Fin 16) : k0_pay41 g (lane l) = BitVec.ofNat 32 (16 * g.val + l.val) := by
  revert g l
  decide +kernel

section Scatter

variable (hx : ∀ p, (x p).toNat < 2 ^ 31) (g : Fin k0_t1_loop.trips)
include hx

/-- The first loop makes 32 trips. -/
theorem trips_t1 : k0_t1_loop.trips = 32 := by decide

/-- A lane that is counted names its own slot. -/
theorem hits_iff (i : S528.Idx) (l : Fin 16) :
    Hits (s := S528) (d := ![16]) ![k0_pay40 (F := F) (BitVec.ofNat 32 (cnt x (16 * g.val))) (chunk x (16 * g.val))] (k0_pay38 (F := F) (chunk x (16 * g.val))) l i
      ↔ Oov (x (16 * g.val + l.val)) ∧ (i 0).val = cnt x (16 * g.val + l.val) := by
  have hg : g.val < 32 := lt_of_lt_of_eq g.isLt (by decide)
  have hc := cnt_le x (16 * g.val + l.val)
  have h38 := pay38_chunk (F := F) x hx (16 * g.val) (lane l)
  have h40 := pay40_chunk (F := F) x hx (16 * g.val) (lane l)
  rw [lane_val] at h38 h40
  constructor
  · rintro ⟨h1, h2⟩
    have h1' : k0_pay38 (F := F) (chunk x (16 * g.val)) (lane l) = 1 := h1
    rw [h38] at h1'
    by_cases ho : Oov (x (16 * g.val + l.val))
    · refine ⟨ho, ?_⟩
      have h2' : (i 0).val = (k0_pay40 (F := F) (BitVec.ofNat 32 (cnt x (16 * g.val))) (chunk x (16 * g.val)) (lane l)).toNat := h2 0
      rw [h40, if_pos ho, BitVec.toNat_ofNat, Nat.mod_eq_of_lt (by omega)] at h2'
      exact h2'
    · rw [if_neg ho] at h1'; exact absurd h1' (by decide)
  · rintro ⟨ho, hi⟩
    refine ⟨?_, ?_⟩
    · show k0_pay38 (F := F) (chunk x (16 * g.val)) (lane l) = 1
      rw [h38, if_pos ho]
    · intro a
      obtain rfl := Fin.eq_zero a
      show (i 0).val = (k0_pay40 (F := F) (BitVec.ofNat 32 (cnt x (16 * g.val))) (chunk x (16 * g.val)) (lane l)).toNat
      rw [h40, if_pos ho, BitVec.toNat_ofNat, Nat.mod_eq_of_lt (by omega)]
      exact hi

/-- Every lane names an element of the slots. -/
theorem chk1 : k0_chk1 (k0_pay40 (F := F) (BitVec.ofNat 32 (cnt x (16 * g.val))) (chunk x (16 * g.val))) := by
  intro a i
  obtain rfl := Fin.eq_zero a
  show (k0_pay40 (F := F) (BitVec.ofNat 32 (cnt x (16 * g.val))) (chunk x (16 * g.val)) i).toNat < 528
  have hg : g.val < 32 := lt_of_lt_of_eq g.isLt (by decide)
  obtain ⟨l, rfl⟩ := lane_eq i
  have hc := cnt_le x (16 * g.val + l.val)
  rw [pay40_chunk x hx, lane_val]
  split
  · rw [BitVec.toNat_ofNat, Nat.mod_eq_of_lt (by omega)]; omega
  · decide

/-- The masked scatter adds the trip's positions to the slots. -/
theorem scatter_slots (f : Vec F S528 .i32) (hf : Slots x (16 * g.val) f)
    (h : ∀ a i, ((![k0_pay40 (F := F) (BitVec.ofNat 32 (cnt x (16 * g.val))) (chunk x (16 * g.val))] : Fin 1 → IVec S16 32) a i).toNat < S528.size a) :
    Slots x (16 * (g.val + 1)) (storeIdx (F := F) (s := S528) (e := .i32) (d := ![16]) f ![k0_pay40 (F := F) (BitVec.ofNat 32 (cnt x (16 * g.val))) (chunk x (16 * g.val))]
      (k0_pay41 g) (k0_pay38 (F := F) (chunk x (16 * g.val))) false h) := by
  intro j hj ho i hi
  by_cases hb : j < 16 * g.val
  · rw [storeIdx_miss (F := F)]
    · exact hf j hb ho i hi
    · intro l hl
      obtain ⟨ho', hi'⟩ := (hits_iff (F := F) x hx g i l).mp hl
      have := cnt_inj x ho ho' (hi.symm.trans hi')
      omega
  · have hl : j - 16 * g.val < 16 := by omega
    have hjl : 16 * g.val + (⟨j - 16 * g.val, hl⟩ : Fin 16).val = j := by show 16 * g.val + (j - 16 * g.val) = j; omega
    rw [storeIdx_hit (F := F) _ _ _ _ _ i (⟨j - 16 * g.val, hl⟩ : Fin 16) ((hits_iff (F := F) x hx g i _).mpr (by rw [hjl]; exact ⟨ho, hi⟩))]
    · refine (pay41_lane g ⟨j - 16 * g.val, hl⟩).trans ?_
      rw [hjl]
    · intro l hl'
      obtain ⟨ho', hi'⟩ := (hits_iff (F := F) x hx g i l).mp hl'
      have he := cnt_inj x ho ho' (hi.symm.trans hi')
      refine (pay41_lane g l).trans ?_
      refine Eq.trans ?_ (pay41_lane g ⟨j - 16 * g.val, hl⟩).symm
      rw [hjl, he]

/-- The count after the trip. -/
theorem count_next : Scalar.addi (BitVec.ofNat 32 (cnt x (16 * g.val))) (extractAt ![15] (k0_pay42 (F := F) (chunk x (16 * g.val))) inpos_S16_p15)
    = BitVec.ofNat 32 (cnt x (16 * (g.val + 1))) :=
  scan_chunk (F := F) x hx (16 * g.val) 15

end Scatter

/-! ## The loop's invariant and one trip -/

variable (d : Dev nD) (L : grid0.Coords)

/-- Before trip `g`: the tile's words; their tile numbers and rows in the tile up to `16 g`; the slots; the count. -/
def Inv (g : ℕ) (acc : BitVec 32) : sProp 𝕄 :=
  iprop(∃ (f5 : Buf (Elt F) (s5.view.loc (thr d L))) (f6 : Buf (Elt F) (s6.view.loc (thr d L)))
      (f7 : Buf (Elt F) (s7.view.loc (thr d L))) (f8 : Buf (Elt F) (s8.view.loc (thr d L))),
    ⌜acc = BitVec.ofNat 32 (cnt x (16 * g)) ∧ (∀ i : S512.Idx, s5.view.read (Elt F) f5 i = x (i 0).val)
      ∧ (∀ i : S512.Idx, (i 0).val < 16 * g → s6.view.read (Elt F) f6 i = safe (x (i 0).val) >>> 3)
      ∧ (∀ i : S512.Idx, (i 0).val < 16 * g → s7.view.read (Elt F) f7 i = safe (x (i 0).val) &&& 7#32)
      ∧ Slots x (16 * g) (s8.view.read (Elt F) f8)⌝
    ∗ (s5.view.loc (thr d L) ↦{fullShare} f5) ∗ (s6.view.loc (thr d L) ↦{fullShare} f6)
    ∗ (s7.view.loc (thr d L) ↦{fullShare} f7) ∗ (s8.view.loc (thr d L) ↦{fullShare} f8))

/-- The loop's body at the subcore's own buffers. -/
abbrev body (L : grid0.Coords) := k0_t1_body (F := F) L wV (Memref.isWhole_whole _) tV (Memref.isWhole_whole _) oV (Memref.isWhole_whole _)
  s5 (Memref.isWhole_whole _) s6 (Memref.isWhole_whole _) s7 (Memref.isWhole_whole _) s8 (Memref.isWhole_whole _) s9 (Memref.isWhole_whole _)
  cc0_scratch5 cc0_scoped0 cc0_scoped1

/-- An access of the whole list is of all its elements. -/
theorem s8_whole : (s8.access (.whole S528)).set = Finset.univ := by
  rw [View.set_slice, show (Rect.whole S528).set = Finset.univ from Rect.set_whole _]
  exact View.set_whole _

/-- One trip of the first loop takes its invariant to the next. -/
theorem trip (hx : ∀ p, (x p).toNat < 2 ^ 31) (g : Fin k0_t1_loop.trips) (acc : BitVec 32) :
    Inv (F := F) x d L g.val acc ⊢ wp frame (wpE (defs₀ (F := F)) 𝒱₀ (thr d L) none) Set.univ (body L g acc) (Inv x d L (g.val + 1)) := by
  unfold body k0_t1_body Inv
  simp only [Prog.lift, Prog.bind_op, Prog.bind_ret, Prog.pure_eq_ret, Prog.bind_assoc]
  iintro ⟨%f5, %f6, %f7, %f8, %hp, H5, H6, H7, H8⟩
  obtain ⟨rfl, h5, h6, h7, h8⟩ := hp
  iapply (wp_loadM d L s5) $$ H5; iintro H5
  iapply (wp_loadM d L s6) $$ H6; iintro H6
  iapply (wp_storeM d L s6) $$ H6; iintro H6
  iapply (wp_loadM d L s7) $$ H7; iintro H7
  iapply (wp_storeM d L s7) $$ H7; iintro H7
  have e5 := read_seq (F := F) s5.view f5 x (16 * g.val) (k0_off2 g) (k0_off2_inb g) (k0_off2_eq g) fun i _ => h5 i
  rw [e5]
  rw [wp_assume_of _ _ _ _ (chk1 (F := F) x hx g)]
  iapply (wp_scatterM d L s8 s8_whole) $$ H8; iintro %f8' %e8 H8
  rw [wp_ret]; imodintro
  iexists f5, _, _, f8'
  isplitr
  swap
  · isplitl [H5]; · iexact H5
    isplitl [H6]; · iexact H6
    isplitl [H7]; · iexact H7
    iexact H8
  ipureintro
  refine ⟨count_next x hx g, h5, fun i hi => ?_, fun i hi => ?_, ?_⟩
  · exact write_seq (F := F) s6.view f6 (fun p => safe (x p) >>> 3) (16 * g.val) _ _ (k0_off2_eq g) _ (pay36_chunk (F := F) x hx _) h6 i (by omega)
  · exact write_seq (F := F) s7.view f7 (fun p => safe (x p) &&& 7#32) (16 * g.val) _ _ (k0_off2_eq g) _ (pay37_chunk (F := F) x hx _) h7 i (by omega)
  · rw [e8]
    exact scatter_slots (F := F) x hx g _ h8 _

end Cert.Proof.T1

end
-- ==== Proof.T2.lean ====
module

public import proofs.«01_k».proof.Proof.Rows
public import proofs.«01_k».proof.Proof.T1

/-! The second loop: sixteen copies a trip, each of one word's row of the table into the row of the tile's block that is its own. -/

@[expose] public section

noncomputable section

namespace Cert.Proof.T2

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)
open Cert.Proof.Lanes Cert.Proof.Setup Cert.Proof.Pieces Cert.Proof.Rows

variable {F : FTy → Type} [FloatOps F]

local notation "𝕄" => MT nD τ sig (HIx 1) (Elt F) ℕ UU ℕ

variable (d : Dev nD) (L : grid0.Coords) (T3 : S125000x8x64.Idx → F .f32) (x : ℕ → BitVec 32) (fd : S512x64.Idx → F .f32)

/-- A word's tile and row lie in the table. -/
theorem chk_row (w : BitVec 32) (a : Fin 3) : (![(safe w >>> 3).toNat, (safe w &&& 7#32).toNat, 0] : Fin 3 → ℕ) a + S1x1x64.size a ≤ S125000x8x64.size a := by
  have h := safe_lt w
  match a with
  | 0 => show (safe w >>> 3).toNat + 1 ≤ 125000; rw [shr3]; omega
  | 1 => show (safe w &&& 7#32).toNat + 1 ≤ 8; rw [and7]; omega
  | 2 => exact le_refl 64

/-- A check that holds, passed. -/
theorem step_assume {α : Type} {Q : α → sProp (MM F)} {P : Prop} {i : Decidable P} {k : PLift P → Prog (TpuEff nD τ sig (Elt F) Λ₀ (thr d L).2) α} (h : P) :
    wp frame (wpE (defs₀ (F := F)) 𝒱₀ (thr d L) none) Set.univ (k ⟨h⟩) Q
      ⊢ (wp frame (wpE (defs₀ (F := F)) 𝒱₀ (thr d L) none) Set.univ (.op (.assume P i) k) Q : sProp 𝕄) :=
  Entails.of_eq (wp_assume_of _ _ _ _ h).symm

/-- Before trip `g`: the tile numbers and rows of all the words; a share of the table; `g` copies issued on each semaphore. -/
def Inv (g : ℕ) : sProp 𝕄 :=
  iprop(∃ (f6 : Buf (Elt F) (s6.view.loc (thr d L))) (f7 : Buf (Elt F) (s7.view.loc (thr d L))),
    ⌜(∀ i : S512.Idx, s6.view.read (Elt F) f6 i = safe (x (i 0).val) >>> 3) ∧ (∀ i : S512.Idx, s7.view.read (Elt F) f7 i = safe (x (i 0).val) &&& 7#32)⌝
    ∗ (s6.view.loc (thr d L) ↦{fullShare} f6) ∗ (s7.view.loc (thr d L) ↦{fullShare} f7)
    ∗ Tbl d L T3 ∗ bigSep Finset.univ (Lane d L T3 x fd g))

/-- The loop's body at the subcore's own buffers. -/
abbrev body (L : grid0.Coords) := k0_t2_body (F := F) L wV (Memref.isWhole_whole _) tV (Memref.isWhole_whole _) oV (Memref.isWhole_whole _)
  s5 (Memref.isWhole_whole _) s6 (Memref.isWhole_whole _) s7 (Memref.isWhole_whole _) s8 (Memref.isWhole_whole _) s9 (Memref.isWhole_whole _)
  cc0_scratch5 cc0_scoped0 cc0_scoped1

/-- One trip of the second loop: one more copy issued on every semaphore. -/
theorem trip (g : Fin k0_t2_loop.trips) : Inv d L T3 x fd g.val ⊢ wp frame (wpE (defs₀ (F := F)) 𝒱₀ (thr d L) none) Set.univ (body L g ⟨⟩)
    (fun _ => Inv d L T3 x fd (g.val + 1)) := by
  have hg : g.val < 32 := g.isLt
  unfold body k0_t2_body Inv
  simp only [k0_part1_eq_skeleton, k0_part2_eq_skeleton, k0_part3_eq_skeleton, k0_part4_eq_skeleton, k0_part5_eq_skeleton, k0_part6_eq_skeleton]
  unfold k0_part1_skel k0_part2_skel k0_part3_skel k0_part4_skel k0_part5_skel k0_part6_skel
  simp only [Prog.lift, Prog.bind_op, Prog.bind_ret, Prog.pure_eq_ret, Prog.bind_assoc]
  iintro ⟨%f6, %f7, %hp, H6, H7, HT, HL⟩
  obtain ⟨h6, h7⟩ := hp
  iapply (wp_loadM d L s6) $$ H6; iintro H6
  iapply (wp_loadM d L s7) $$ H7; iintro H7
  have e6 := read_seq (F := F) s6.view f6 (fun p => safe (x p) >>> 3) (16 * g.val) (k0_off3 g) (k0_off3_inb g) (k0_off3_eq g) fun i _ => h6 i
  have e7 := read_seq (F := F) s7.view f7 (fun p => safe (x p) &&& 7#32) (16 * g.val) (k0_off3 g) (k0_off3_inb g) (k0_off3_eq g) fun i _ => h7 i
  rw [e6, e7]
  ihave H := (show iprop(Tbl d L T3 ∗ bigSep Finset.univ (Lane d L T3 x fd g.val)) ⊢ iprop(Tbl d L T3 ∗ Mid (Lane d L T3 x fd g) (Lane d L T3 x fd (g + 1)) 0)
    from sep_mono .rfl (mid_zero _ _)) $$ [HT HL]
  · isplitl [HT] <;> iassumption
  iapply (step_assume d L (chk_row (x (16 * g.val + 0)))); iapply (wp_issue d L T3 x fd g.val 0 hg (by decide) rfl (k0_off6_eq g 0) rfl) $$ H; iintro H
  iapply (step_assume d L (chk_row (x (16 * g.val + 1)))); iapply (wp_issue d L T3 x fd g.val 1 hg (by decide) rfl (k0_off8_eq g 0) rfl) $$ H; iintro H
  iapply (step_assume d L (chk_row (x (16 * g.val + 2)))); iapply (wp_issue d L T3 x fd g.val 2 hg (by decide) rfl (k0_off10_eq g 0) rfl) $$ H; iintro H
  iapply (step_assume d L (chk_row (x (16 * g.val + 3)))); iapply (wp_issue d L T3 x fd g.val 3 hg (by decide) rfl (k0_off12_eq g 0) rfl) $$ H; iintro H
  iapply (step_assume d L (chk_row (x (16 * g.val + 4)))); iapply (wp_issue d L T3 x fd g.val 4 hg (by decide) rfl (k0_off14_eq g 0) rfl) $$ H; iintro H
  iapply (step_assume d L (chk_row (x (16 * g.val + 5)))); iapply (wp_issue d L T3 x fd g.val 5 hg (by decide) rfl (k0_off16_eq g 0) rfl) $$ H; iintro H
  iapply (step_assume d L (chk_row (x (16 * g.val + 6)))); iapply (wp_issue d L T3 x fd g.val 6 hg (by decide) rfl (k0_off18_eq g 0) rfl) $$ H; iintro H
  iapply (step_assume d L (chk_row (x (16 * g.val + 7)))); iapply (wp_issue d L T3 x fd g.val 7 hg (by decide) rfl (k0_off20_eq g 0) rfl) $$ H; iintro H
  iapply (step_assume d L (chk_row (x (16 * g.val + 8)))); iapply (wp_issue d L T3 x fd g.val 8 hg (by decide) rfl (k0_off22_eq g 0) rfl) $$ H; iintro H
  iapply (step_assume d L (chk_row (x (16 * g.val + 9)))); iapply (wp_issue d L T3 x fd g.val 9 hg (by decide) rfl (k0_off24_eq g 0) rfl) $$ H; iintro H
  iapply (step_assume d L (chk_row (x (16 * g.val + 10)))); iapply (wp_issue d L T3 x fd g.val 10 hg (by decide) rfl (k0_off26_eq g 0) rfl) $$ H; iintro H
  iapply (step_assume d L (chk_row (x (16 * g.val + 11)))); iapply (wp_issue d L T3 x fd g.val 11 hg (by decide) rfl (k0_off28_eq g 0) rfl) $$ H; iintro H
  iapply (step_assume d L (chk_row (x (16 * g.val + 12)))); iapply (wp_issue d L T3 x fd g.val 12 hg (by decide) rfl (k0_off30_eq g 0) rfl) $$ H; iintro H
  iapply (step_assume d L (chk_row (x (16 * g.val + 13)))); iapply (wp_issue d L T3 x fd g.val 13 hg (by decide) rfl (k0_off32_eq g 0) rfl) $$ H; iintro H
  iapply (step_assume d L (chk_row (x (16 * g.val + 14)))); iapply (wp_issue d L T3 x fd g.val 14 hg (by decide) rfl (k0_off34_eq g 0) rfl) $$ H; iintro H
  iapply (step_assume d L (chk_row (x (16 * g.val + 15)))); iapply (wp_issue d L T3 x fd g.val 15 hg (by decide) rfl (k0_off36_eq g) rfl) $$ H; iintro H
  rw [wp_ret]; imodintro
  iexists f6, f7
  icases H with ⟨HT, HM⟩
  isplitr; · ipureintro; exact ⟨h6, h7⟩
  isplitl [H6]; · iexact H6
  isplitl [H7]; · iexact H7
  isplitl [HT]; · iexact HT
  iapply (mid_all _ _)
  iexact HM

end Cert.Proof.T2

end
-- ==== Proof.T3.lean ====
module

public import proofs.«01_k».proof.Proof.Rows
public import proofs.«01_k».proof.Proof.T1

/-! The third loop: sixteen waits a trip, one on each semaphore; after its 32 trips every row of the block has been fetched. -/

@[expose] public section

noncomputable section

namespace Cert.Proof.T3

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)
open Cert.Proof.Lanes Cert.Proof.Setup Cert.Proof.Pieces Cert.Proof.Rows

variable {F : FTy → Type} [FloatOps F]

local notation "𝕄" => MT nD τ sig (HIx 1) (Elt F) ℕ UU ℕ

variable (d : Dev nD) (L : grid0.Coords) (T3 : S125000x8x64.Idx → F .f32) (x : ℕ → BitVec 32)
  (O : CellTallies nD τ sig (HIx 1)) (W : Waits sig (HIx 1))

/-- What the subcore owes, and the waits it has taken: those of `W` and some under no handshake. -/
def Wts : sProp 𝕄 := iprop(∃ W' : Waits sig (HIx 1), ⌜∀ p ∈ W', p ∈ W ∨ p.2 = none⌝ ∗ owes (thr d L) O W')

/-- Semaphore `k` with all its copies issued and `g` of them waited for. -/
def LaneW (g : ℕ) (k : Fin 16) : sProp 𝕄 := Bat d L T3 x k 32 (g * NB)

variable {α : Type} {Q : α → sProp (MM F)}

/-- One wait for a row's copy. -/
theorem wp_wait (g n : ℕ) (hg : g < 32) (hn : n < 16) {offS inbS offD inbD} {sm : DmaSem sig} {hs hd}
    {k : PUnit → Prog (TpuEff nD τ sig (Elt F) Λ₀ (thr d L).2) α} (esm : sm = cell ⟨n, hn⟩) :
    iprop(Transfers.MayWaits (thr d L) (none : HIx 1) O ∗ Wts (F := F) d L O W ∗ Mid (LaneW d L T3 x g) (LaneW d L T3 x (g + 1)) n)
      ⊢ iprop((iprop(Transfers.MayWaits (thr d L) (none : HIx 1) O ∗ Wts d L O W ∗ Mid (LaneW d L T3 x g) (LaneW d L T3 x (g + 1)) (n + 1))
            -∗ wp frame (wpE (defs₀ (F := F)) 𝒱₀ (thr d L) none) Set.univ (k ⟨⟩) Q)
        -∗ wp frame (wpE (defs₀ (F := F)) 𝒱₀ (thr d L) none) Set.univ (.op (.waitDma2 sm (srcM offS inbS) (dstM offD inbD) hs hd) k) Q) := by
  subst esm
  have hb := fun W' => Transfers.wp_waitBatchMulO (defs := defs₀ (F := F)) (Name := ℕ) (U := UU) (Q := Q) (Lvl := ℕ) countersEmb 𝒱₀ (thr d L) none
    (sem := cell ⟨n, hn⟩) (srcw := srcM offS inbS) (dstw := dstM offD inbD) (hsrc := hs) (hdst := hd) (k := k) (none : HIx 1) (N := NB) 1
    (Nat.one_mul NB).symm (D := fun t : Fin 32 => rowPts d L (16 * t.val + n) (G T3 x)) (j := 32) (u := g * NB)
    (by rw [Nat.one_mul, Nat.mul_comm NB, ← Nat.succ_mul]; exact Nat.mul_le_mul_right _ hg) (O := O) (W := W')
  unfold Wts
  iintro ⟨#Hmw, ⟨%W', %hW, HO⟩, HM⟩ Hk
  ihave HM := (mid_step _ _ n hn) $$ HM
  icases HM with ⟨HL, HM⟩
  unfold LaneW Bat
  iapply (hb W') $$ [HL HO]
  · isplitl [HL]; · iexact HL
    isplitl [HO]; · iexact HO
    iapply (Transfers.MayWaits.elim (SemLoc.dma (cell ⟨n, hn⟩))) $$ Hmw
  iintro ⟨HB, HO⟩
  iapply Hk
  isplitr; · iexact Hmw
  isplitl [HO]
  · iexists _
    isplitr
    swap
    · iexact HO
    ipureintro
    intro p hp
    rcases Finset.mem_insert.mp hp with rfl | h
    · exact Or.inr rfl
    · exact hW p h
  iapply HM
  rw [Nat.add_mul]
  iexact HB

/-- Before trip `g`: `g` waits taken on each semaphore. -/
def Inv (g : ℕ) : sProp 𝕄 :=
  iprop(Transfers.MayWaits (thr d L) (none : HIx 1) O ∗ Wts d L O W ∗ bigSep Finset.univ (LaneW d L T3 x g))

/-- The loop's body at the subcore's own buffers. -/
abbrev body (L : grid0.Coords) := k0_t3_body (F := F) L wV (Memref.isWhole_whole _) tV (Memref.isWhole_whole _) oV (Memref.isWhole_whole _)
  s5 (Memref.isWhole_whole _) s6 (Memref.isWhole_whole _) s7 (Memref.isWhole_whole _) s8 (Memref.isWhole_whole _) s9 (Memref.isWhole_whole _)
  cc0_scratch5 cc0_scoped0 cc0_scoped1

/-- One trip of the third loop: one more copy waited for on every semaphore. -/
theorem trip (g : Fin k0_t3_loop.trips) : Inv d L T3 x O W g.val ⊢ wp frame (wpE (defs₀ (F := F)) 𝒱₀ (thr d L) none) Set.univ (body L g ⟨⟩)
    (fun _ => Inv d L T3 x O W (g.val + 1)) := by
  have hg : g.val < 32 := g.isLt
  unfold body k0_t3_body Inv
  simp only [k0_part7_eq_skeleton, k0_part8_eq_skeleton, k0_part9_eq_skeleton, k0_part10_eq_skeleton, k0_part11_eq_skeleton]
  unfold k0_part7_skel k0_part8_skel k0_part9_skel k0_part10_skel k0_part11_skel
  simp only [Prog.lift, Prog.bind_op, Prog.bind_ret, Prog.pure_eq_ret, Prog.bind_assoc]
  iintro ⟨Hmw, HO, HL⟩
  ihave H := (show iprop(Transfers.MayWaits (thr d L) (none : HIx 1) O ∗ Wts d L O W ∗ bigSep Finset.univ (LaneW d L T3 x g.val))
      ⊢ iprop(Transfers.MayWaits (thr d L) (none : HIx 1) O ∗ Wts d L O W ∗ Mid (LaneW d L T3 x g) (LaneW d L T3 x (g + 1)) 0)
    from sep_mono .rfl (sep_mono .rfl (mid_zero _ _))) $$ [Hmw HO HL]
  · isplitl [Hmw]; · iexact Hmw
    isplitl [HO] <;> iassumption
  iapply (wp_wait d L T3 x O W g.val 0 hg (by decide) rfl) $$ H; iintro H
  iapply (wp_wait d L T3 x O W g.val 1 hg (by decide) rfl) $$ H; iintro H
  iapply (wp_wait d L T3 x O W g.val 2 hg (by decide) rfl) $$ H; iintro H
  iapply (wp_wait d L T3 x O W g.val 3 hg (by decide) rfl) $$ H; iintro H
  iapply (wp_wait d L T3 x O W g.val 4 hg (by decide) rfl) $$ H; iintro H
  iapply (wp_wait d L T3 x O W g.val 5 hg (by decide) rfl) $$ H; iintro H
  iapply (wp_wait d L T3 x O W g.val 6 hg (by decide) rfl) $$ H; iintro H
  iapply (wp_wait d L T3 x O W g.val 7 hg (by decide) rfl) $$ H; iintro H
  iapply (wp_wait d L T3 x O W g.val 8 hg (by decide) rfl) $$ H; iintro H
  iapply (wp_wait d L T3 x O W g.val 9 hg (by decide) rfl) $$ H; iintro H
  iapply (wp_wait d L T3 x O W g.val 10 hg (by decide) rfl) $$ H; iintro H
  iapply (wp_wait d L T3 x O W g.val 11 hg (by decide) rfl) $$ H; iintro H
  iapply (wp_wait d L T3 x O W g.val 12 hg (by decide) rfl) $$ H; iintro H
  iapply (wp_wait d L T3 x O W g.val 13 hg (by decide) rfl) $$ H; iintro H
  iapply (wp_wait d L T3 x O W g.val 14 hg (by decide) rfl) $$ H; iintro H
  iapply (wp_wait d L T3 x O W g.val 15 hg (by decide) rfl) $$ H; iintro H
  rw [wp_ret]; imodintro
  icases H with ⟨Hmw, HO, HM⟩
  isplitl [Hmw]; · iexact Hmw
  isplitl [HO]; · iexact HO
  iapply (mid_all _ _)
  iexact HM

end Cert.Proof.T3

end
-- ==== Proof.T4.lean ====
module

public import proofs.«01_k».proof.Proof.T2

/-! The fourth loop: each trip takes sixteen slots of the list and writes zeros over the rows they name, a column at a time. -/

@[expose] public section

noncomputable section

namespace Cert.Proof.T4

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)
open Cert.Proof.Lanes Cert.Proof.Setup Cert.Proof.Pieces Cert.Proof.Rows

variable {F : FTy → Type} [FloatOps F]

local notation "𝕄" => MT nD τ sig (HIx 1) (Elt F) ℕ UU ℕ

/-! ## The loop's bounds, at every count -/

/-- At a count of `n` the loop over whole chunks has `⌈n / 16⌉` trips and the loop after it none; both have a meaning. -/
theorem bounds (n : Fin 513) : (k0_t4_loop (BitVec.ofNat 32 n.val)).trips = (n.val + 15) / 16 ∧ (k0_t5_loop (BitVec.ofNat 32 n.val)).trips = 0
    ∧ (k0_t4_loop (BitVec.ofNat 32 n.val)).OK ∧ (k0_t5_loop (BitVec.ofNat 32 n.val)).OK := by
  revert n; decide +kernel

/-- Trip `c` reads the list from slot `16 c` on. -/
theorem off37 (v7 : BitVec 32) (c : Fin (k0_t4_loop v7).trips) (hc : c.val < 33) : k0_off37 v7 c = ![16 * c.val] := by
  have key : ∀ m : Fin 33, (Scalar.indexCast (Scalar.muli (Scf.iv 0#32 1#32 m.val) 16#32)).toNat = 16 * m.val := by decide +kernel
  exact congrArg (fun v => (![v] : Fin 1 → ℕ)) (key ⟨c.val, hc⟩)

/-- What the program assumes of the count. -/
theorem chk18 (n : ℕ) (hn : n ≤ 512) : k0_chk18 (BitVec.ofNat 32 n) := by
  obtain ⟨h4, h5, ok4, ok5⟩ := bounds ⟨n, by omega⟩
  refine ⟨ok4, fun c a => ?_, ok5, fun c => ?_⟩
  · have hc := lt_of_lt_of_eq c.isLt h4
    rw [off37 _ c (by omega)]
    obtain rfl := Fin.eq_zero a
    show 16 * c.val + 16 ≤ 528
    omega
  · exact absurd (lt_of_lt_of_eq c.isLt h5) (Nat.not_lt_zero _)

/-- The signed comparison of two small words. -/
theorem slt_small (a b : ℕ) (ha : a < 2 ^ 31) (hb : b < 2 ^ 31) : BitVec.ofBool ((BitVec.ofNat 32 a).slt (BitVec.ofNat 32 b)) = 1 ↔ a < b := by
  have ea : (BitVec.ofNat 32 a).toNat = a := by rw [BitVec.toNat_ofNat]; omega
  have eb : (BitVec.ofNat 32 b).toNat = b := by rw [BitVec.toNat_ofNat]; omega
  rw [BitVec.slt_eq_decide, BitVec.toInt_eq_toNat_of_lt (by omega), BitVec.toInt_eq_toNat_of_lt (by omega), ea, eb,
    show ∀ t : Bool, BitVec.ofBool t = 1 ↔ t = true by decide, decide_eq_true_iff]
  omega

/-- The slots that trip `c` takes: those below the count. -/
theorem mask_lane (n : ℕ) (hn : n ≤ 512) (c : Fin (k0_t4_loop (BitVec.ofNat 32 n)).trips) (l : Fin 16) :
    k0_pay30 (iota .scVector S16 32 [0] iota_S16_d0_w32_scVector) (BitVec.ofNat 32 n) 0#32 1#32 c (lane l) = 1 ↔ 16 * c.val + l.val < n := by
  have hc : c.val < 33 := lt_of_lt_of_le (lt_of_lt_of_eq c.isLt (bounds ⟨n, by omega⟩).1) (by show (n + 15) / 16 ≤ 33; omega)
  have key : ∀ (m : Fin 33) (l : Fin 16), iota .scVector S16 32 [0] iota_S16_d0_w32_scVector (lane l) + Scalar.muli (Scf.iv 0#32 1#32 m.val) 16#32
      = BitVec.ofNat 32 (16 * m.val + l.val) := by decide +kernel
  show BitVec.ofBool ((iota .scVector S16 32 [0] iota_S16_d0_w32_scVector (lane l) + Scalar.muli (Scf.iv 0#32 1#32 c.val) 16#32).slt (BitVec.ofNat 32 n)) = 1 ↔ _
  rw [key ⟨c.val, hc⟩ l]
  exact slt_small _ _ (by show 16 * c.val + l.val < 2 ^ 31; omega) (by omega)

/-! ## Zeros over the listed rows -/

variable (x : ℕ → BitVec 32) (g : S512x64.Idx → F .f32)

/-- The zero that is written. -/
def zf : F .f32 := Scalar.ofBits .f32 0x00000000#32

/-- Row `j` is zeroed at column `k` by the slots below `16 c`, and those of chunk `c` as far as column `D`. -/
def Done (c D : ℕ) (i : S512x64.Idx) : Prop :=
  Oov (x (i 0).val) ∧ (cnt x (i 0).val < 16 * c ∨ (cnt x (i 0).val < 16 * (c + 1) ∧ (i 1).val < D))

instance (c D : ℕ) (i : S512x64.Idx) : Decidable (Done x c D i) := by unfold Done; infer_instance

/-- The block with those zeros over `g`. -/
def Z (c D : ℕ) (i : S512x64.Idx) : F .f32 := if Done x c D i then zf else g i

/-- The block is zeroed by all the slots. -/
def fin (i : S512x64.Idx) : F .f32 := if Oov (x (i 0).val) then zf else g i

/-- Before the loop nothing is zeroed. -/
theorem Z_zero : Z x g 0 0 = g := by
  funext i
  unfold Z
  rw [if_neg]
  unfold Done
  omega

/-- A chunk zeroed at all 64 columns is the next chunk at none. -/
theorem Z_next (c : ℕ) : Z x g c 64 = Z x g (c + 1) 0 := by
  funext i
  have h : (i 1).val < 64 := (i 1).isLt
  have e : Done x c 64 i ↔ Done x (c + 1) 0 i := by
    unfold Done
    refine and_congr_right fun _ => ?_
    omega
  unfold Z
  by_cases hd : Done x c 64 i
  · rw [if_pos hd, if_pos (e.mp hd)]
  · rw [if_neg hd, if_neg fun h => hd (e.mpr h)]

/-- With every slot of the list done, the rows of all words out of the vocabulary are zeroed. -/
theorem Z_last (c : ℕ) (hc : cnt x 512 ≤ 16 * c) : Z x g c 0 = fin x g := by
  funext i
  have h : (i 0).val < 512 := (i 0).isLt
  have e : Done x c 0 i ↔ Oov (x (i 0).val) := by
    unfold Done
    refine ⟨fun h => h.1, fun ho => ⟨ho, Or.inl ?_⟩⟩
    have := cnt_lt x h ho
    omega
  unfold Z fin
  by_cases hd : Done x c 0 i
  · rw [if_pos hd, if_pos (e.mp hd)]
  · rw [if_neg hd, if_neg fun h => hd (e.mpr h)]

/-- The rows and the mask of chunk `c`: a lane below the count names the row whose slot it is. -/
def Good (c : ℕ) (rows : IVec S16 32) (mask : IVec S16 1) : Prop :=
  ∀ l : Fin 16, (rows (lane l)).toNat < 512 ∧ (mask (lane l) = 1 ↔ 16 * c + l.val < cnt x 512)
    ∧ (mask (lane l) = 1 → Oov (x (rows (lane l)).toNat) ∧ cnt x (rows (lane l)).toNat = 16 * c + l.val)

variable {x} {c : ℕ} {rows : IVec S16 32} {mask : IVec S16 1} (hG : Good x c rows mask)
include hG

/-- The rows and one column lie in the block. -/
theorem chk_col (D : ℕ) (hD : D < 64) (a : Fin 2) (i : S16.Idx) :
    ((![rows, broadcast S16 (BitVec.ofNat 32 D)] : Fin 2 → IVec S16 32) a i).toNat < S512x64.size a := by
  obtain ⟨l, rfl⟩ := lane_eq i
  match a with
  | 0 => exact (hG l).1
  | 1 => show (BitVec.ofNat 32 D).toNat < 64; rw [BitVec.toNat_ofNat]; omega

/-- One column's zeros. -/
theorem col (D : ℕ) (hD : D < 64) {h} :
    storeIdx (F := F) (s := S512x64) (e := .f32) (Z x g c D) (![rows, broadcast S16 (BitVec.ofNat 32 D)] : Fin 2 → IVec S16 32) (k0_pay46 (F := F)) mask false h = Z x g c (D + 1) := by
  funext i
  have h0 : (i 0).val < 512 := (i 0).isLt
  have hDn : (BitVec.ofNat 32 D).toNat = D := by rw [BitVec.toNat_ofNat]; omega
  by_cases hs : Oov (x (i 0).val) ∧ 16 * c ≤ cnt x (i 0).val ∧ cnt x (i 0).val < 16 * (c + 1) ∧ (i 1).val = D
  · obtain ⟨ho, h1, h2, h3⟩ := hs
    have hlt := cnt_lt x h0 ho
    have hl : cnt x (i 0).val - 16 * c < 16 := by omega
    obtain ⟨g1, g2, g3⟩ := hG ⟨cnt x (i 0).val - 16 * c, hl⟩
    have hm := g2.mpr (by show 16 * c + (cnt x (i 0).val - 16 * c) < _; omega)
    obtain ⟨g4, g5⟩ := g3 hm
    have hr := cnt_inj x ho g4 (by rw [g5]; show _ = 16 * c + (cnt x (i 0).val - 16 * c); omega)
    refine (storeIdx_hit (s := S512x64) _ _ _ _ _ i ⟨cnt x (i 0).val - 16 * c, hl⟩ ⟨hm, fun a => ?_⟩ fun _ _ => rfl).trans ?_
    · match a with
      | 0 => exact hr
      | 1 => exact h3.trans hDn.symm
    · unfold Z
      rw [if_pos ⟨ho, Or.inr ⟨h2, by omega⟩⟩]
      rfl
  · have e : Done x c (D + 1) i ↔ Done x c D i := by
      unfold Done
      refine and_congr_right fun ho => ?_
      have := fun h1 h2 h3 => hs ⟨ho, h1, h2, h3⟩
      omega
    refine (storeIdx_miss (s := S512x64) _ _ _ _ _ i ?_).trans ?_
    · rintro l ⟨hm, hh⟩
      obtain ⟨g1, g2, g3⟩ := hG l
      obtain ⟨g4, g5⟩ := g3 hm
      have e0 : (i 0).val = (rows (lane l)).toNat := hh 0
      have e1 : (i 1).val = D := (hh 1).trans hDn
      have hl := l.isLt
      rw [← e0] at g4 g5
      exact hs ⟨g4, by omega, by omega, e1⟩
    · unfold Z
      by_cases hd : Done x c D i
      · rw [if_pos hd, if_pos (e.mpr hd)]
      · rw [if_neg hd, if_neg fun h => hd (e.mp h)]

omit hG

/-- The rows that trip `c` takes from the list. -/
theorem good (x : ℕ → BitVec 32) (y : ℕ → BitVec 32) (c : Fin (k0_t4_loop (BitVec.ofNat 32 (cnt x 512))).trips)
    (hy : ∀ j < 512, Oov (x j) → y (cnt x j) = BitVec.ofNat 32 j) :
    Good x c.val (select (k0_pay30 (iota .scVector S16 32 [0] iota_S16_d0_w32_scVector) (BitVec.ofNat 32 (cnt x 512)) 0#32 1#32 c) (chunk y (16 * c.val)) k0_pay32)
      (k0_pay30 (iota .scVector S16 32 [0] iota_S16_d0_w32_scVector) (BitVec.ofNat 32 (cnt x 512)) 0#32 1#32 c) := by
  intro l
  have hm := mask_lane _ (cnt_le x 512) c l
  have hsel : ∀ m : IVec S16 1, select m (chunk y (16 * c.val)) k0_pay32 (lane l) = if m (lane l) = 1 then y (16 * c.val + l.val) else 0#32 := fun _ => rfl
  rw [hsel]
  by_cases h : 16 * c.val + l.val < cnt x 512
  · obtain ⟨j, h1, h2, h3⟩ := cnt_surj x h
    have hj : (BitVec.ofNat 32 j).toNat = j := by rw [BitVec.toNat_ofNat]; omega
    have hyj := hy j h1 h2
    rw [h3] at hyj
    rw [if_pos (hm.mpr h), hyj, hj]
    exact ⟨h1, hm, fun _ => ⟨h2, h3⟩⟩
  · rw [if_neg fun h' => h (hm.mp h')]
    exact ⟨by decide, hm, fun h' => absurd (hm.mp h') h⟩

/-! ## One trip -/

variable (d : Dev nD) (L : grid0.Coords)

/-- An access of the whole block is of all its elements. -/
theorem s9_whole : (s9.access (.whole S512x64)).set = Finset.univ := by
  rw [View.set_slice, show (Rect.whole S512x64).set = Finset.univ from Rect.set_whole _]
  exact View.set_whole _

/-- The block, zeroed by the slots below `16 c` and by chunk `c` as far as column `D`. -/
def Col (x : ℕ → BitVec 32) (c D : ℕ) : sProp 𝕄 :=
  iprop(∃ f : Buf (Elt F) (s9.view.loc (thr d L)), ⌜s9.view.read (Elt F) f = Z x g c D⌝ ∗ (s9.view.loc (thr d L) ↦{fullShare} f))

variable {α : Type} {Q : α → sProp (MM F)}

/-- The zeros of one column written. -/
theorem wp_col (hG : Good x c rows mask) (D : ℕ) (hD : D < 64) {v : IVec S16 32} (hv : v = broadcast S16 (BitVec.ofNat 32 D)) {P : Prop} {i : Decidable P}
    {h : ∀ (_ : PLift P) (a : Fin 2) x, ((![rows, v] : Fin 2 → IVec S16 32) a x).toNat < S512x64.size a}
    (hP : P = ∀ (a : Fin 2) x, ((![rows, v] : Fin 2 → IVec S16 32) a x).toNat < S512x64.size a) {hs}
    {k : PUnit → Prog (TpuEff nD τ sig (Elt F) Λ₀ (thr d L).2) α} :
    Col g d L x c D ⊢ iprop((Col g d L x c (D + 1) -∗ wp frame (wpE (defs₀ (F := F)) 𝒱₀ (thr d L) none) Set.univ (k ⟨⟩) Q)
      -∗ wp frame (wpE (defs₀ (F := F)) 𝒱₀ (thr d L) none) Set.univ
        (.op (.assume P i) fun hp => SparseCore.vectorStoreIdx s9 ![rows, v] (k0_pay46 (F := F)) mask false (h hp) hs >>= k) Q) := by
  subst hv
  have hc := chk_col hG D hD
  unfold Col
  iintro ⟨%f, %hf, H⟩ Hk
  iapply (T2.step_assume d L (hP.symm ▸ hc))
  iapply (wp_scatterM d L s9 s9_whole) $$ H; iintro %f' %e H
  iapply Hk
  iexists f'
  isplitr
  · ipureintro
    rw [e, hf]
    exact col g hG D hD
  · iexact H

/-- Before trip `c`: the list, and the block zeroed by the slots below `16 c`. -/
def Inv (x : ℕ → BitVec 32) (c : ℕ) : sProp 𝕄 :=
  iprop(∃ f8 : Buf (Elt F) (s8.view.loc (thr d L)), ⌜T1.Slots x 512 (s8.view.read (Elt F) f8)⌝ ∗ (s8.view.loc (thr d L) ↦{fullShare} f8) ∗ Col g d L x c 0)

/-- The loop's body at the subcore's own buffers. -/
abbrev body (L : grid0.Coords) (n : ℕ) (hw : k0_chk18 (BitVec.ofNat 32 n)) := k0_t4_body (F := F) L wV (Memref.isWhole_whole _) tV (Memref.isWhole_whole _) oV (Memref.isWhole_whole _)
  s5 (Memref.isWhole_whole _) s6 (Memref.isWhole_whole _) s7 (Memref.isWhole_whole _) s8 (Memref.isWhole_whole _) s9 (Memref.isWhole_whole _)
  cc0_scratch5 cc0_scoped0 cc0_scoped1 (iota .scVector S16 32 [0] iota_S16_d0_w32_scVector) k0_pay32 (BitVec.ofNat 32 n) hw (k0_pay46 (F := F))

/-- Sixteen slots of the list, as a stretch of a sequence that has every listed word's place at its slot. -/
theorem list_chunk (x : ℕ → BitVec 32) (v : View sig .scVector .vmem S528 .i32) (f : v.ty.Contents (Elt F)) (h8 : T1.Slots x 512 (v.read (Elt F) f))
    (b : ℕ) (off : Fin 1 → ℕ) (inb : ∀ a, off a + S16.size a ≤ S528.size a) (ho : off = ![b]) :
    ∃ y : ℕ → BitVec 32, (∀ j < 512, Oov (x j) → y (cnt x j) = BitVec.ofNat 32 j)
      ∧ v.readAt (Elt F) (Rect.unit (s := S528) off S16.size inb).toLoadRect f = chunk y b := by
  refine ⟨fun p => if h : p < 528 then v.read (Elt F) f (fun a => match a with | 0 => (⟨p, h⟩ : Fin 528)) else 0#32, fun j hj ho => ?_, ?_⟩
  · have hi : cnt x j < 528 := by have := cnt_le x j; omega
    show dite _ _ _ = _
    rw [dif_pos hi]
    exact h8 j hj ho _ rfl
  · refine read_seq (F := F) v f _ b off inb ho fun i _ => ?_
    have hi : (i 0).val < 528 := (i 0).isLt
    show _ = dite _ _ _
    rw [dif_pos hi]
    congr 1
    funext a
    match a with
    | 0 => rfl

/-- One trip of the last loop: sixteen more slots' rows zeroed. -/
theorem trip (x : ℕ → BitVec 32) (hw) (c : Fin (k0_t4_loop (BitVec.ofNat 32 (cnt x 512))).trips) :
    Inv g d L x c.val ⊢ wp frame (wpE (defs₀ (F := F)) 𝒱₀ (thr d L) none) Set.univ (body L (cnt x 512) hw c ⟨⟩) (fun _ => Inv g d L x (c.val + 1)) := by
  have hc : c.val < 33 := lt_of_lt_of_le (lt_of_lt_of_eq c.isLt (bounds ⟨cnt x 512, by have := cnt_le x 512; omega⟩).1)
    (by have := cnt_le x 512; show (cnt x 512 + 15) / 16 ≤ 33; omega)
  unfold body k0_t4_body Inv
  simp only [k0_part12_eq_skeleton, k0_part13_eq_skeleton, k0_part14_eq_skeleton, k0_part15_eq_skeleton]
  unfold k0_part12_skel k0_part13_skel k0_part14_skel k0_part15_skel
  simp only [Prog.lift, Prog.bind_op, Prog.bind_ret, Prog.pure_eq_ret, Prog.bind_assoc]
  iintro ⟨%f8, %h8, H8, H⟩
  iapply (wp_loadM d L s8) $$ H8; iintro H8
  obtain ⟨y, hy, e8⟩ := list_chunk (F := F) x s8.view f8 h8 (16 * c.val) _ (k0_off37_inb _ hw c) (off37 _ c hc)
  rw [e8]
  have hG := good x y c hy
  iapply (wp_col g d L hG 0 (by decide) rfl rfl) $$ H; iintro H; iapply (wp_col g d L hG 1 (by decide) rfl rfl) $$ H; iintro H
  iapply (wp_col g d L hG 2 (by decide) rfl rfl) $$ H; iintro H; iapply (wp_col g d L hG 3 (by decide) rfl rfl) $$ H; iintro H
  iapply (wp_col g d L hG 4 (by decide) rfl rfl) $$ H; iintro H; iapply (wp_col g d L hG 5 (by decide) rfl rfl) $$ H; iintro H
  iapply (wp_col g d L hG 6 (by decide) rfl rfl) $$ H; iintro H; iapply (wp_col g d L hG 7 (by decide) rfl rfl) $$ H; iintro H
  iapply (wp_col g d L hG 8 (by decide) rfl rfl) $$ H; iintro H; iapply (wp_col g d L hG 9 (by decide) rfl rfl) $$ H; iintro H
  iapply (wp_col g d L hG 10 (by decide) rfl rfl) $$ H; iintro H; iapply (wp_col g d L hG 11 (by decide) rfl rfl) $$ H; iintro H
  iapply (wp_col g d L hG 12 (by decide) rfl rfl) $$ H; iintro H; iapply (wp_col g d L hG 13 (by decide) rfl rfl) $$ H; iintro H
  iapply (wp_col g d L hG 14 (by decide) rfl rfl) $$ H; iintro H; iapply (wp_col g d L hG 15 (by decide) rfl rfl) $$ H; iintro H
  iapply (wp_col g d L hG 16 (by decide) rfl rfl) $$ H; iintro H; iapply (wp_col g d L hG 17 (by decide) rfl rfl) $$ H; iintro H
  iapply (wp_col g d L hG 18 (by decide) rfl rfl) $$ H; iintro H; iapply (wp_col g d L hG 19 (by decide) rfl rfl) $$ H; iintro H
  iapply (wp_col g d L hG 20 (by decide) rfl rfl) $$ H; iintro H; iapply (wp_col g d L hG 21 (by decide) rfl rfl) $$ H; iintro H
  iapply (wp_col g d L hG 22 (by decide) rfl rfl) $$ H; iintro H; iapply (wp_col g d L hG 23 (by decide) rfl rfl) $$ H; iintro H
  iapply (wp_col g d L hG 24 (by decide) rfl rfl) $$ H; iintro H; iapply (wp_col g d L hG 25 (by decide) rfl rfl) $$ H; iintro H
  iapply (wp_col g d L hG 26 (by decide) rfl rfl) $$ H; iintro H; iapply (wp_col g d L hG 27 (by decide) rfl rfl) $$ H; iintro H
  iapply (wp_col g d L hG 28 (by decide) rfl rfl) $$ H; iintro H; iapply (wp_col g d L hG 29 (by decide) rfl rfl) $$ H; iintro H
  iapply (wp_col g d L hG 30 (by decide) rfl rfl) $$ H; iintro H; iapply (wp_col g d L hG 31 (by decide) rfl rfl) $$ H; iintro H
  iapply (wp_col g d L hG 32 (by decide) rfl rfl) $$ H; iintro H; iapply (wp_col g d L hG 33 (by decide) rfl rfl) $$ H; iintro H
  iapply (wp_col g d L hG 34 (by decide) rfl rfl) $$ H; iintro H; iapply (wp_col g d L hG 35 (by decide) rfl rfl) $$ H; iintro H
  iapply (wp_col g d L hG 36 (by decide) rfl rfl) $$ H; iintro H; iapply (wp_col g d L hG 37 (by decide) rfl rfl) $$ H; iintro H
  iapply (wp_col g d L hG 38 (by decide) rfl rfl) $$ H; iintro H; iapply (wp_col g d L hG 39 (by decide) rfl rfl) $$ H; iintro H
  iapply (wp_col g d L hG 40 (by decide) rfl rfl) $$ H; iintro H; iapply (wp_col g d L hG 41 (by decide) rfl rfl) $$ H; iintro H
  iapply (wp_col g d L hG 42 (by decide) rfl rfl) $$ H; iintro H; iapply (wp_col g d L hG 43 (by decide) rfl rfl) $$ H; iintro H
  iapply (wp_col g d L hG 44 (by decide) rfl rfl) $$ H; iintro H; iapply (wp_col g d L hG 45 (by decide) rfl rfl) $$ H; iintro H
  iapply (wp_col g d L hG 46 (by decide) rfl rfl) $$ H; iintro H; iapply (wp_col g d L hG 47 (by decide) rfl rfl) $$ H; iintro H
  iapply (wp_col g d L hG 48 (by decide) rfl rfl) $$ H; iintro H; iapply (wp_col g d L hG 49 (by decide) rfl rfl) $$ H; iintro H
  iapply (wp_col g d L hG 50 (by decide) rfl rfl) $$ H; iintro H; iapply (wp_col g d L hG 51 (by decide) rfl rfl) $$ H; iintro H
  iapply (wp_col g d L hG 52 (by decide) rfl rfl) $$ H; iintro H; iapply (wp_col g d L hG 53 (by decide) rfl rfl) $$ H; iintro H
  iapply (wp_col g d L hG 54 (by decide) rfl rfl) $$ H; iintro H; iapply (wp_col g d L hG 55 (by decide) rfl rfl) $$ H; iintro H
  iapply (wp_col g d L hG 56 (by decide) rfl rfl) $$ H; iintro H; iapply (wp_col g d L hG 57 (by decide) rfl rfl) $$ H; iintro H
  iapply (wp_col g d L hG 58 (by decide) rfl rfl) $$ H; iintro H; iapply (wp_col g d L hG 59 (by decide) rfl rfl) $$ H; iintro H
  iapply (wp_col g d L hG 60 (by decide) rfl rfl) $$ H; iintro H; iapply (wp_col g d L hG 61 (by decide) rfl rfl) $$ H; iintro H
  iapply (wp_col g d L hG 62 (by decide) rfl rfl) $$ H; iintro H; iapply (wp_col g d L hG 63 (by decide) rfl rfl) $$ H; iintro H
  rw [wp_ret]; imodintro
  iexists f8
  isplitr; · ipureintro; exact h8
  isplitl [H8]; · iexact H8
  unfold Col
  rw [← Z_next]
  iexact H

end Cert.Proof.T4

end
-- ==== Proof.Block.lean ====
module

public import proofs.«01_k».proof.Proof.T2
public import proofs.«01_k».proof.Proof.T3
public import proofs.«01_k».proof.Proof.T4

/-! Between the loops: the block split into the rows of the sixteen semaphores and put together again, the semaphores'
batches opened and closed, and a plain copy with its wait. -/

@[expose] public section

noncomputable section

namespace Cert.Proof.Block

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Batch pending issued)
open Idealize.ShloMosaic.SparseCore.Cfg (HIx)
open Cert.Proof.Lanes Cert.Proof.Setup Cert.Proof.Pieces Cert.Proof.Rows
open Cert.Proof.T3 (Wts LaneW)

variable {F : FTy → Type} [FloatOps F]

local notation "𝕄" => MT nD τ sig (HIx 1) (Elt F) ℕ UU ℕ

variable (d : Dev nD) (L : grid0.Coords) (T3 : S125000x8x64.Idx → F .f32) (x : ℕ → BitVec 32)

/-! ## The block by rows -/

/-- Every element of the block is in one of the 512 rows. -/
theorem rows_cover : (Finset.univ : Finset (Fin 512)).biUnion (fun j => rowSet j.val) = Finset.univ := by
  ext i
  simp only [Finset.mem_biUnion, Finset.mem_univ, true_and, iff_true, mem_rowSet]
  exact ⟨(i 0 : Fin 512), rfl⟩

/-- No element of the block is in two rows. -/
theorem rows_disjoint : ((Finset.univ : Finset (Fin 512)) : Set (Fin 512)).PairwiseDisjoint fun j => rowSet j.val := by
  intro a _ b _ h
  refine Finset.disjoint_left.mpr fun i hi hi' => h (Fin.ext ?_)
  rw [mem_rowSet] at hi hi'
  omega

/-- The block is its rows, sixteen strands of 32. -/
theorem block_rows (f : S512x64.Idx → F .f32) :
    (s9.view.loc (thr d L) ↦{fullShare} (f : Buf (Elt F) (s9.view.loc (thr d L))) : sProp 𝕄)
      = bigSep Finset.univ fun k : Fin 16 => bigSep Finset.univ fun t : Fin 32 => rowPts d L (16 * t.val + k.val) f := by
  have h := pointsTo_biUnion (Val := Elt F) (ℓ := s9.view.loc (thr d L)) (q := fullShare) (f := (f : Buf (Elt F) (s9.view.loc (thr d L))))
    (Ix := HIx 1) (Name := ℕ) (U := UU) (Lvl := ℕ)
    (Finset.univ : Finset (Fin 512)) (fun j => rowSet j.val) rows_disjoint
  have h0 := congrArg (fun S : Finset (Idx (s9.view.loc (thr d L))) => (s9.view.loc (thr d L) ↦[S]{fullShare} (f : Buf (Elt F) (s9.view.loc (thr d L))) : sProp 𝕄)) rows_cover
  refine h0.symm.trans (h.trans ?_)
  rw [bigSep_univ_equiv ((Equiv.prodComm (Fin 16) (Fin 32)).trans finProdFinEquiv : Fin 16 × Fin 32 ≃ Fin 512), bigSep_univ_prod]
  refine bigSep_congr fun k _ => bigSep_congr fun t _ => ?_
  show rowPts d L (k.val + 16 * t.val) f = _
  rw [Nat.add_comm]

/-! ## The batches opened and closed -/

/-- The sixteen semaphores at zero. -/
def Cells : sProp 𝕄 := bigSep Finset.univ fun k : Fin 16 => semVal (thr d L, SemLoc.dma (cell k)) 0

/-- One semaphore's batch opened. -/
theorem lane_open (fd : S512x64.Idx → F .f32) (k : Fin 16) :
    iprop(semVal (thr d L, SemLoc.dma (cell k)) 0 ∗ bigSep Finset.univ fun t : Fin 32 => rowPts d L (16 * t.val + k.val) fd)
      ⊢ (|={Set.univ}=> Lane d L T3 x fd 0 k : sProp 𝕄) := by
  iintro ⟨Hv, HR⟩
  imod (Transfers.batch_alloc' countersEmb (c := thr d L) (sm := SemLoc.dma (cell k)) (none : HIx 1) NB
    (fun t : Fin 32 => rowPts d L (16 * t.val + k.val) (G T3 x)) (E := Set.univ)) $$ Hv with HB
  imodintro
  unfold Lane Bat
  isplitl [HB]; · iexact HB
  rw [← Transfers.bigSep_pending_zero]
  iexact HR

/-- Every semaphore at zero and the block in hand: nothing issued yet. -/
theorem lanes_open (fd : S512x64.Idx → F .f32) :
    iprop(Cells (F := F) d L ∗ (s9.view.loc (thr d L) ↦{fullShare} (fd : Buf (Elt F) (s9.view.loc (thr d L)))))
      ⊢ (|={Set.univ}=> bigSep Finset.univ (Lane d L T3 x fd 0) : sProp 𝕄) := by
  rw [block_rows]
  unfold Cells
  rw [← bigSep_sep']
  exact (BI.bigSep_mono fun k _ => lane_open d L T3 x fd k).trans (bigSep_fupd _ _)

/-- A semaphore with all its copies issued is one with all issued and none waited for. -/
theorem lane_issued (fd : S512x64.Idx → F .f32) (k : Fin 16) : Lane d L T3 x fd 32 k ⊢ (LaneW d L T3 x 0 k : sProp 𝕄) := by
  unfold Lane LaneW
  rw [Nat.zero_mul]
  iintro ⟨H, -⟩
  iexact H

/-- All issued, none waited for. -/
theorem lanes_issued (fd : S512x64.Idx → F .f32) : bigSep Finset.univ (Lane d L T3 x fd 32) ⊢ (bigSep Finset.univ (LaneW d L T3 x 0) : sProp 𝕄) :=
  BI.bigSep_mono fun k _ => lane_issued d L T3 x fd k

/-- One semaphore's batch closed. -/
theorem lane_close (k : Fin 16) : LaneW d L T3 x 32 k
    ⊢ (|={Set.univ}=> iprop(semVal (thr d L, SemLoc.dma (cell k)) 0 ∗ bigSep Finset.univ fun t : Fin 32 => rowPts d L (16 * t.val + k.val) (G T3 x)) : sProp 𝕄) := by
  unfold LaneW Bat
  rw [Nat.mul_comm]
  iintro H
  imod (Transfers.batch_collect' countersEmb (thr d L) NB_pos) $$ H with ⟨HR, Hv⟩
  imodintro
  isplitl [Hv]; · iexact Hv
  iexact HR

/-- All waited for: the block holds the fetched rows, and every semaphore is at zero again. -/
theorem lanes_close : bigSep Finset.univ (LaneW d L T3 x 32)
    ⊢ (|={Set.univ}=> iprop(Cells (F := F) d L ∗ (s9.view.loc (thr d L) ↦{fullShare} (G T3 x : Buf (Elt F) (s9.view.loc (thr d L))))) : sProp 𝕄) := by
  rw [block_rows]
  unfold Cells
  rw [← bigSep_sep']
  exact (BI.bigSep_mono fun k _ => lane_close d L T3 x k).trans (bigSep_fupd _ _)

/-! ## A copy and its wait -/

variable {α : Type} {Q : α → sProp (MM F)} (O : CellTallies nD τ sig (HIx 1)) (W : Waits sig (HIx 1))

/-- A plain copy and its wait: the destination holds what the source did, and the semaphore is back at zero. -/
theorem wp_copy {sp sp' : Space} {s : Shape} {e : EltTy} {src : Memref sig .scVector sp s e} {dst : Memref sig .scVector sp' s e} {sem : DmaSem sig}
    {hs hd hk hs' hd'} {k : PUnit → Prog (TpuEff nD τ sig (Elt F) Λ₀ (thr d L).2) α} {q : PosShare TreeShare}
    {fs : Buf (Elt F) (src.view.loc (thr d L))} {fd : Buf (Elt F) (dst.view.loc (thr d L))} (hN : 0 < dst.view.dmaCredit) :
    iprop(Transfers.MayWaits (thr d L) (none : HIx 1) O ∗ Wts (F := F) d L O W ∗ (src.view.loc (thr d L) ↦[src.view.set]{q} fs)
        ∗ (dst.view.loc (thr d L) ↦[dst.view.set]{fullShare} fd) ∗ semVal (thr d L, SemLoc.dma sem) 0)
      ⊢ iprop((iprop(Wts (F := F) d L O W ∗ (src.view.loc (thr d L) ↦[src.view.set]{q} fs)
            ∗ (dst.view.loc (thr d L) ↦[dst.view.set]{fullShare} (dst.view.write (Elt F) fd (src.view.read (Elt F) fs) Finset.univ)) ∗ semVal (thr d L, SemLoc.dma sem) 0)
            -∗ wp frame (wpE (defs₀ (F := F)) 𝒱₀ (thr d L) none) Set.univ (k ⟨⟩) Q)
        -∗ wp frame (wpE (defs₀ (F := F)) 𝒱₀ (thr d L) none) Set.univ
          (.op (.enqueueDma src (.here dst) (.dma sem) hs hd hk) fun _ => .op (.waitDma2 sem src dst hs' hd') k) Q) := by
  have h1 := Transfers.wp_dmaLocal (defs := defs₀ (F := F)) (Name := ℕ) (U := UU) (Q := Q) (Lvl := ℕ) countersEmb 𝒱₀ (thr d L) none (src := src) (via := .same)
    (dst := dst) (sm := .dma sem) (hsrc := hs) (hdst := hd) (hsem := hk) (k := fun _ => .op (.waitDma2 sem src dst hs' hd') k)
    (Sd := dst.view.set) (fd := fd) (fs := fs) (q := q) (none : HIx 1) dst.view.dmaCredit rfl hN subset_rfl
  have h2 := fun W' D => Transfers.wp_waitLocalO (defs := defs₀ (F := F)) (Name := ℕ) (U := UU) (Q := Q) (Lvl := ℕ) countersEmb 𝒱₀ (thr d L) none
    (sem := sem) (srcw := src) (dstw := dst) (hsrc := hs') (hdst := hd') (k := k) (none : HIx 1) (N := dst.view.dmaCredit) rfl (D := D) (O := O) (W := W')
  unfold Wts
  iintro ⟨#Hmw, ⟨%W', %hW, HO⟩, Hs, Hd, Hv⟩ Hk
  iapply h1 $$ [Hs Hd Hv]
  · isplitl [Hs]; · iexact Hs
    isplitl [Hd] <;> iassumption
  iintro HF
  iapply (h2 W' _) $$ [HF HO]
  · isplitl [HF]; · iexact HF
    isplitl [HO]; · iexact HO
    iapply (Transfers.MayWaits.elim (SemLoc.dma sem)) $$ Hmw
  iintro ⟨⟨Hd, Hs⟩, Hv, HO⟩
  iapply Hk
  isplitl [HO]
  · iexists _
    isplitr
    swap
    · iexact HO
    ipureintro
    intro p hp
    rcases Finset.mem_insert.mp hp with rfl | h
    · exact Or.inr rfl
    · exact hW p h
  isplitl [Hs]; · iexact Hs
  isplitl [Hd]; · iexact Hd
  iexact Hv

end Cert.Proof.Block

end
-- ==== Proof.Tile.lean ====
module

public import proofs.«01_k».proof.Proof.Block

/-! One subcore's whole program: the words fetched, the four loops, the block sent out. -/

@[expose] public section

noncomputable section

namespace Cert.Proof.Tile

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (HIx)
open Cert.Proof.Lanes Cert.Proof.Setup Cert.Proof.Pieces Cert.Proof.Rows Cert.Proof.Block
open Cert.Proof.T3 (Wts LaneW)

variable {F : FTy → Type} [FloatOps F]

local notation "𝕄" => MT nD τ sig (HIx 1) (Elt F) ℕ UU ℕ

variable (d : Dev nD) (L : grid0.Coords) (tb : S125000x8x64.Idx → F .f32) (x : ℕ → BitVec 32)

/-- A loop at the head of a program, by its invariant. -/
theorem wp_loop {w : ℕ} {σ α : Type} (l : Scf.Loop w) (hok : l.OK) (init : σ) (body : Fin l.trips → σ → Prog (TpuEff nD τ sig (Elt F) Λ₀ (thr d L).2) σ)
    (I : ℕ → σ → sProp (MM F))
    (hbody : ∀ (k : Fin l.trips) (acc : σ), I k acc ⊢ wp frame (wpE (defs₀ (F := F)) 𝒱₀ (thr d L) none) Set.univ (body k acc) (I (k.val + 1)))
    {kk : σ → Prog (TpuEff nD τ sig (Elt F) Λ₀ (thr d L).2) α} {Q : α → sProp (MM F)} :
    I 0 init ⊢ iprop((∀ acc, I l.trips acc -∗ wp frame (wpE (defs₀ (F := F)) 𝒱₀ (thr d L) none) Set.univ (kk acc) Q)
      -∗ wp frame (wpE (defs₀ (F := F)) 𝒱₀ (thr d L) none) Set.univ (Scf.Loop.for l hok init body >>= kk) Q) :=
  Scf.wp_for_bind frame (wpE (defs₀ (F := F)) 𝒱₀ (thr d L) none) Set.univ l.lb l.ub l.st hok init body I hbody

/-- The words of the subcore, and its rows of the result, as its program addresses them. -/
abbrev wM : Memref sig .scVector .hbm S512 .i32 := wV.slice (Rect.unit (s := S16384) (k0_off1 L) S512.size (k0_off1_inb L)) (fun _ => rfl)
abbrev oM : Memref sig .scVector .hbm S512x64 .f32 := oV.slice (Rect.unit (s := S16384x64) (k0_off39 L) S512x64.size (k0_off39_inb L)) (fun _ => rfl)

/-- A buffer of the subcore's own, at some contents. -/
def Own {s : Shape} {e : EltTy} (m : Memref sig .scVector .vmem s e) : sProp 𝕄 := iprop(∃ f : Buf (Elt F) (m.view.loc (thr d L)), m.view.loc (thr d L) ↦{fullShare} f)

/-- The subcore's own buffers and semaphores. -/
def Scratch : sProp 𝕄 :=
  iprop(Own (F := F) d L s5 ∗ Own (F := F) d L s6 ∗ Own (F := F) d L s7 ∗ Own (F := F) d L s8 ∗ Own (F := F) d L s9 ∗ Cells (F := F) d L
    ∗ semVal (thr d L, SemLoc.dma cc0_scoped0.sem) 0 ∗ semVal (thr d L, SemLoc.dma cc0_scoped1.sem) 0)

/-- The words' buffer is the whole of its memory. -/
theorem s5_set : s5.view.set = Finset.univ := View.set_whole _
/-- The block is the whole of its memory. -/
theorem s9_set : s9.view.set = Finset.univ := View.set_whole _

/-- After the second loop all copies are issued and none is waited for. -/
theorem issued' (fd : S512x64.Idx → F .f32) : bigSep Finset.univ (Lane d L tb x fd k0_t2_loop.trips) ⊢ (bigSep Finset.univ (LaneW d L tb x 0) : sProp 𝕄) := by
  rw [show k0_t2_loop.trips = 32 by decide]
  exact lanes_issued d L tb x fd

/-- After the third loop the semaphores are at zero and the block holds the fetched rows. -/
theorem close' : bigSep Finset.univ (LaneW d L tb x k0_t3_loop.trips)
    ⊢ (|={Set.univ}=> iprop(Cells (F := F) d L ∗ (s9.view.loc (thr d L) ↦{fullShare} (G tb x : Buf (Elt F) (s9.view.loc (thr d L))))) : sProp 𝕄) := by
  rw [show k0_t3_loop.trips = 32 by decide]
  exact lanes_close d L tb x

variable (O : CellTallies nD τ sig (HIx 1)) (W : Waits sig (HIx 1))

set_option maxHeartbeats 4000000 in
/-- The whole program from the subcore's words, the table, the scratch buffers and the semaphores. -/
theorem body_core (hx : ∀ p, (x p).toNat < 2 ^ 31) (fw : S16384.Idx → BitVec 32)
    (hw : ∀ i : S512.Idx, (wM L).view.read (Elt F) (fw : Buf (Elt F) ((wM L).view.loc (thr d L))) i = x (i 0).val)
    (fo : Buf (Elt F) ((oM L).view.loc (thr d L))) :
    iprop(Transfers.MayWaits (thr d L) (none : HIx 1) O ∗ Wts (F := F) d L O W
        ∗ ((wM L).view.loc (thr d L) ↦[(wM L).view.set]{fullShare} (fw : Buf (Elt F) ((wM L).view.loc (thr d L)))) ∗ Tbl d L tb
        ∗ ((oM L).view.loc (thr d L) ↦[(oM L).view.set]{fullShare} fo) ∗ Scratch (F := F) d L)
      ⊢ wp frame (wpE (defs₀ (F := F)) 𝒱₀ (thr d L) none) Set.univ
          (cc0__sc_embed_body L wV (Memref.isWhole_whole _) tV (Memref.isWhole_whole _) oV (Memref.isWhole_whole _)
            s5 (Memref.isWhole_whole _) s6 (Memref.isWhole_whole _) s7 (Memref.isWhole_whole _) s8 (Memref.isWhole_whole _) s9 (Memref.isWhole_whole _)
            cc0_scratch5 cc0_scoped0 cc0_scoped1)
          fun _ => iprop(Wts (F := F) d L O W
            ∗ ((wM L).view.loc (thr d L) ↦[(wM L).view.set]{fullShare} (fw : Buf (Elt F) ((wM L).view.loc (thr d L))))
            ∗ ((oM L).view.loc (thr d L) ↦[(oM L).view.set]{fullShare} (oM L).view.write (Elt F) fo (T4.fin x (G tb x)) Finset.univ)
            ∗ Scratch (F := F) d L) := by
  simp only [cc0__sc_embed_body_eq_skeleton]
  unfold cc0__sc_embed_body_skel
  simp only [k0_part20_eq_skeleton]
  unfold k0_part20_skel
  simp only [Prog.lift, Prog.bind_op, Prog.bind_ret, Prog.pure_eq_ret, Prog.bind_assoc]
  unfold Scratch Own
  iintro ⟨#Hmw, HO, Hw, HT, Ho, ⟨%f5, H5⟩, H6, H7, H8, ⟨%f9, H9⟩, HC, Hv0, Hv1⟩
  ihave H5 := (Entails.of_eq (congrArg (fun S => (s5.view.loc (thr d L) ↦[S]{fullShare} f5 : sProp 𝕄)) s5_set.symm)) $$ H5
  iapply (wp_copy d L O W (src := wM L) (dst := s5) (fs := fw) (fd := f5) (sig.dmaCredit_pos _ _ _ _ _ (by decide))) $$ [HO Hw H5 Hv0]
  · isplitr; · iexact Hmw
    isplitl [HO]; · iexact HO
    isplitl [Hw]; · iexact Hw
    isplitl [H5] <;> iassumption
  iintro ⟨HO, Hw, H5, Hv0⟩
  ihave H5 := (Entails.of_eq (congrArg (fun S => (s5.view.loc (thr d L) ↦[S]{fullShare}
    (s5.view.write (Elt F) f5 ((wM L).view.read (Elt F) fw) Finset.univ) : sProp 𝕄)) s5_set)) $$ H5
  icases H6 with ⟨%f6, H6⟩
  icases H7 with ⟨%f7, H7⟩
  icases H8 with ⟨%f8, H8⟩
  -- the first loop
  iapply (wp_loop d L k0_t1_loop k0_t1_ok 0#32 (T1.body L) (T1.Inv x d L) (T1.trip x d L hx)) $$ [H5 H6 H7 H8]
  · unfold T1.Inv
    iexists _, f6, f7, f8
    isplitr
    swap
    · isplitl [H5]; · iexact H5
      isplitl [H6]; · iexact H6
      isplitl [H7] <;> iassumption
    ipureintro
    refine ⟨rfl, fun i => ?_, fun i hi => absurd hi (by omega), fun i hi => absurd hi (by omega), fun j hj => absurd hj (by omega)⟩
    rw [View.read_write_univ]
    exact hw i
  iintro %acc H
  unfold T1.Inv
  icases H with ⟨%g5, %g6, %g7, %g8, %hp, H5, H6, H7, H8⟩
  rw [show 16 * k0_t1_loop.trips = 512 by decide] at hp
  obtain ⟨rfl, h5, h6, h7, h8⟩ := hp
  have hk := T4.chk18 (cnt x 512) (cnt_le x _)
  have hb := T4.bounds ⟨cnt x 512, Nat.lt_succ_of_le (cnt_le x 512)⟩
  iapply (T2.step_assume d L hk)
  -- the second
  imod (lanes_open d L tb x f9) $$ [HC H9] with HL
  · isplitl [HC] <;> iassumption
  iapply (wp_loop d L k0_t2_loop k0_t2_ok ⟨⟩ (T2.body L) (fun g _ => T2.Inv d L tb x f9 g) (fun g _ => T2.trip d L tb x f9 g)) $$ [H6 H7 HT HL]
  · unfold T2.Inv
    iexists g6, g7
    isplitr
    swap
    · isplitl [H6]; · iexact H6
      isplitl [H7]; · iexact H7
      isplitl [HT] <;> iassumption
    ipureintro
    exact ⟨fun i => h6 i (i 0).isLt, fun i => h7 i (i 0).isLt⟩
  iintro %_ H
  unfold T2.Inv
  icases H with ⟨%e6, %e7, -, H6, H7, -, HL⟩
  ihave HL := (issued' d L tb x f9) $$ HL
  -- the third
  iapply (wp_loop d L k0_t3_loop k0_t3_ok ⟨⟩ (T3.body L) (fun g _ => T3.Inv d L tb x O W g) (fun g _ => T3.trip d L tb x O W g)) $$ [HO HL]
  · unfold T3.Inv
    isplitr; · iexact Hmw
    isplitl [HO] <;> iassumption
  iintro %_ H
  unfold T3.Inv
  icases H with ⟨-, HO, HL⟩
  imod (close' d L tb x) $$ HL with ⟨HC, H9⟩
  -- the fourth
  iapply (wp_loop d L (k0_t4_loop _) (k0_t4_ok _ hk) ⟨⟩ (T4.body L (cnt x 512) hk) (fun c _ => T4.Inv (G tb x) d L x c) (fun c _ => T4.trip (G tb x) d L x hk c)) $$ [H8 H9]
  · unfold T4.Inv T4.Col
    iexists g8
    isplitr; · ipureintro; exact h8
    isplitl [H8]; · iexact H8
    iexists _
    isplitr
    swap
    · iexact H9
    ipureintro
    rw [T4.Z_zero]
    rfl
  iintro %_ H
  unfold T4.Inv T4.Col
  icases H with ⟨%e8, -, H8, %e9, %h9, H9⟩
  -- the fifth makes no trip
  iapply (wp_loop d L (k0_t5_loop _) (k0_t5_ok _ hk) ⟨⟩ _ (fun _ _ => iprop(emp)) (fun c _ => absurd
    (lt_of_lt_of_eq c.isLt hb.2.1) (Nat.not_lt_zero _))) $$ []
  · iempintro
  iintro %_ -
  have h9' : s9.view.read (Elt F) e9 = T4.fin x (G tb x) := by
    rw [h9]
    refine T4.Z_last _ _ _ ?_
    have h : (k0_t4_loop (BitVec.ofNat 32 (cnt x 512))).trips = (cnt x 512 + 15) / 16 := hb.1
    rw [h]
    omega
  -- the block sent out
  ihave H9 := (Entails.of_eq (congrArg (fun S => (s9.view.loc (thr d L) ↦[S]{fullShare} e9 : sProp 𝕄)) s9_set.symm)) $$ H9
  iapply (wp_copy d L O W (src := s9) (dst := oM L) (fs := e9) (fd := fo) (sig.dmaCredit_pos _ _ _ _ _ (by decide))) $$ [HO H9 Ho Hv1]
  · isplitr; · iexact Hmw
    isplitl [HO]; · iexact HO
    isplitl [H9]; · iexact H9
    isplitl [Ho] <;> iassumption
  rw [h9']
  iintro ⟨HO, H9, Ho, Hv1⟩
  rw [wp_ret]; imodintro
  isplitl [HO]; · iexact HO
  isplitl [Hw]; · iexact Hw
  isplitl [Ho]; · iexact Ho
  isplitl [H5]; · iexists _; iexact H5
  isplitl [H6]; · iexists _; iexact H6
  isplitl [H7]; · iexists _; iexact H7
  isplitl [H8]; · iexists _; iexact H8
  isplitl [H9]
  · iexists e9
    iapply (Entails.of_eq (congrArg (fun S => (s9.view.loc (thr d L) ↦[S]{fullShare} e9 : sProp 𝕄)) s9_set))
    iexact H9
  isplitl [HC]; · iexact HC
  isplitl [Hv0] <;> iassumption

end Cert.Proof.Tile

end
-- ==== Proof.Owned.lean ====
module

public import proofs.«01_k».proof.Proof.Tile

/-! What a subcore owns: its scratch buffers and semaphores among all that the launch leaves it, its 512 words and its 512
rows of the result among the whole arrays, and its program from these. -/

@[expose] public section

noncomputable section

namespace Cert.Proof.Owned

open Cert.KernelIdeal Cert.KernelIdeal.Gen
open Idealize.ShloMosaic
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Cert.Proof.Lanes Cert.Proof.Setup Cert.Proof.Pieces Cert.Proof.Rows Cert.Proof.Block Cert.Proof.Tile
open Cert.Proof.T3 (Wts)

variable {F : FTy → Type} [FloatOps F]

local notation "𝕄" => MT nD τ sig (HIx 1) (Elt F) ℕ UU ℕ

variable (d : Dev nD) (L : grid0.Coords)

/-! ## The semaphores -/

/-- The sixteen semaphores of the array are sixteen different ones. -/
theorem cell_inj : Function.Injective cell := by decide
/-- None of them is the first plain copy's semaphore. -/
theorem cell_ne0 : ∀ k, cell k ≠ cc0_scoped0.sem := by decide
/-- None of them is the second plain copy's semaphore. -/
theorem cell_ne1 : ∀ k, cell k ≠ cc0_scoped1.sem := by decide

/-- A transfers' semaphore of the subcore. -/
abbrev gcell (d : Dev nD) (L : grid0.Coords) (s : DmaSem sig) : GSem nD τ sig := (thr d L, SemLoc.dma s)

/-- On one subcore different semaphores are different cells. -/
theorem gcell_inj {s s' : DmaSem sig} (h : gcell d L s = gcell d L s') : s = s' := by
  have := congrArg Prod.snd h
  exact SemLoc.dma.inj this

/-- Every DMA semaphore of a subcore is its own. -/
theorem scoped_all : ∀ s : DmaSem sig, (SemLoc.dma s : SemLoc sig).isScoped .scVector = true := by decide

/-- A subcore owns each of its semaphores. -/
theorem mem_own (s : DmaSem sig) : gcell d L s ∈ ownCells (thr d L) := mem_ownCells.mpr ⟨rfl, scoped_all s⟩

def cellEmb : Fin 16 ↪ GSem nD τ sig := ⟨fun k => gcell d L (cell k), fun _ _ h => cell_inj (gcell_inj d L h)⟩

/-- The subcore's other semaphores. -/
def restCells : Finset (GSem nD τ sig) :=
  (((ownCells (thr d L)).erase (gcell d L cc0_scoped0.sem)).erase (gcell d L cc0_scoped1.sem)) \ Finset.univ.map (cellEmb d L)

/-- What a subcore owns of semaphores: the two plain copies', the sixteen of the array, and the rest. -/
theorem ownSems0_eq : (ownSems0 (thr d L) : sProp 𝕄)
    = iprop(semVal (gcell d L cc0_scoped0.sem) 0 ∗ semVal (gcell d L cc0_scoped1.sem) 0 ∗ Cells (F := F) d L ∗ bigSep (restCells d L) fun g => semVal g 0) := by
  unfold SparseCore.Cfg.ownSems0
  rw [SparseCore.bigSep_erase' (mem_own d L cc0_scoped0.sem),
    SparseCore.bigSep_erase' (Finset.mem_erase.mpr ⟨fun h => absurd (gcell_inj d L h) (by decide), mem_own d L cc0_scoped1.sem⟩),
    SparseCore.bigSep_sdiff_split' (t := Finset.univ.map (cellEmb d L)) (fun g hg => by
      obtain ⟨k, -, rfl⟩ := Finset.mem_map.mp hg
      exact Finset.mem_erase.mpr ⟨fun h => cell_ne1 k (gcell_inj d L h), Finset.mem_erase.mpr ⟨fun h => cell_ne0 k (gcell_inj d L h), mem_own d L _⟩⟩),
    bigSep_map]
  rfl

/-! ## The buffers -/

abbrev ref (L : grid0.Coords) (b : Ref sig .scVector) : DevRef τ sig := (Proc.scVector (cV L) (jV L)).devRef b

/-- The subcore's other buffers. -/
def restRefs : Finset (DevRef τ sig) :=
  (((((ownRefs (τ := τ) (.scVector (cV L) (jV L))).erase (ref L cc0_scratch0)).erase (ref L cc0_scratch1)).erase (ref L cc0_scratch2)).erase
    (ref L cc0_scratch3)).erase (ref L cc0_scratch4)

/-- On one subcore different buffers are different. -/
theorem ref_ne {b b' : Ref sig .scVector} (h : b ≠ b') : ref L b ≠ ref L b' := fun e => h (Proc.devRef_injective _ e)

/-- What a subcore owns of buffers: its five scratch buffers and the rest. -/
theorem ownBufs_eq : (ownBufs (thr d L) : sProp 𝕄)
    = iprop(Own (F := F) d L s5 ∗ Own (F := F) d L s6 ∗ Own (F := F) d L s7 ∗ Own (F := F) d L s8 ∗ Own (F := F) d L s9
        ∗ bigSep (restRefs L) fun b => iprop(∃ f, ((d, b) : Loc nD τ sig) ↦{fullShare} f)) := by
  have own (b : Ref sig .scVector) (h : (ref L b).owner = .proc (.scVector (cV L) (jV L))) : ref L b ∈ ownRefs (τ := τ) (sig := sig) (.scVector (cV L) (jV L)) :=
    SparseCore.Cfg.mem_ownRefs_of_owner h
  unfold SparseCore.Cfg.ownBufs restRefs
  refine (SparseCore.bigSep_erase' (own cc0_scratch0 rfl)).trans ?_
  rw [SparseCore.bigSep_erase' (Finset.mem_erase.mpr ⟨ref_ne L (by decide), own cc0_scratch1 rfl⟩),
    SparseCore.bigSep_erase' (Finset.mem_erase.mpr ⟨ref_ne L (by decide), Finset.mem_erase.mpr ⟨ref_ne L (by decide), own cc0_scratch2 rfl⟩⟩),
    SparseCore.bigSep_erase' (Finset.mem_erase.mpr ⟨ref_ne L (by decide), Finset.mem_erase.mpr ⟨ref_ne L (by decide),
      Finset.mem_erase.mpr ⟨ref_ne L (by decide), own cc0_scratch3 rfl⟩⟩⟩),
    SparseCore.bigSep_erase' (Finset.mem_erase.mpr ⟨ref_ne L (by decide), Finset.mem_erase.mpr ⟨ref_ne L (by decide),
      Finset.mem_erase.mpr ⟨ref_ne L (by decide), Finset.mem_erase.mpr ⟨ref_ne L (by decide), own cc0_scratch4 rfl⟩⟩⟩⟩)]
  rfl

/-! ## The subcore's part of the arrays -/

/-- The words split into 32 equal parts. -/
theorem wdiv : 32 ∣ S16384.size 0 := ⟨512, rfl⟩
/-- The rows of the result split into 32 equal parts. -/
theorem odiv : 32 ∣ S16384x64.size 0 := ⟨512, rfl⟩
abbrev wRowSet (i : Fin 32) : Finset S16384.Idx := (wV.view.slice (Rect.part (s := S16384) (a₀ := 0) wdiv i)).set
abbrev oRowSet (i : Fin 32) : Finset S16384x64.Idx := (oV.view.slice (Rect.part (s := S16384x64) (a₀ := 0) odiv i)).set

/-- The number of the subcore: two to a pair, one of each core. -/
def part (c : Fin 2) (s : Fin 16) : Fin 32 := ⟨2 * s.val + c.val, by omega⟩
abbrev pL (L : grid0.Coords) : Fin 32 := part (L 0) (L 1)

/-- The subcore's number is twice its number in its core, plus the core's. -/
theorem pL_val : (pL L).val = 2 * (L 1).val + (L 0).val := rfl

/-- The words that a subcore copies in are its part of the words. -/
theorem wrect : Rect.unit (s := S16384) (k0_off1 L) S512.size (k0_off1_inb L) = Rect.part (s := S16384) (a₀ := 0) wdiv (pL L) := by
  unfold Rect.part Rect.block
  congr 1 <;> funext a
  · rw [k0_off1_eq]
    match a with
    | 0 => simp [Shape.partIx, Shape.partSize, pL_val]; omega
  · match a with
    | 0 => simp [Shape.partSize]

/-- The rows that a subcore copies out are its part of the rows. -/
theorem orect : Rect.unit (s := S16384x64) (k0_off39 L) S512x64.size (k0_off39_inb L) = Rect.part (s := S16384x64) (a₀ := 0) odiv (pL L) := by
  unfold Rect.part Rect.block
  congr 1 <;> funext a
  · rw [k0_off39_eq]
    match a with
    | 0 => simp [Shape.partIx, Shape.partSize, pL_val]; omega
    | 1 => simp [Shape.partIx, Shape.partSize]
  · match a with
    | 0 => simp [Shape.partSize]
    | 1 => simp [Shape.partSize]

/-- The elements of a subcore's words. -/
theorem wset : (wM L).view.set = wRowSet (pL L) := by
  show (wV.view.slice (Rect.unit (s := S16384) (k0_off1 L) S512.size (k0_off1_inb L))).set = _
  exact wrect L ▸ rfl
/-- The elements of a subcore's rows. -/
theorem oset : (oM L).view.set = oRowSet (pL L) := by
  show (oV.view.slice (Rect.unit (s := S16384x64) (k0_off39 L) S512x64.size (k0_off39_inb L))).set = _
  exact orect L ▸ rfl

/-! ## What the subcore leaves -/

/-- The words as a sequence, zero past the last. -/
def ext (w : S16384.Idx → BitVec 32) (q : ℕ) : BitVec 32 := if h : q < 16384 then w (fun a => match a with | 0 => (⟨q, h⟩ : Fin 16384)) else 0#32

/-- The words of part `i`. -/
def words (w : S16384.Idx → BitVec 32) (i : Fin 32) (p : ℕ) : BitVec 32 := ext w (512 * i.val + p)

/-- If no word is negative, none of the sequence is. -/
theorem ext_lt {w : S16384.Idx → BitVec 32} (hw : ∀ i, (w i).toNat < 2 ^ 31) (q : ℕ) : (ext w q).toNat < 2 ^ 31 := by
  unfold ext
  split
  · exact hw _
  · decide

/-- The result: each row the table's row of its word, and zero where the word is out of the vocabulary. -/
def res (w : S16384.Idx → BitVec 32) (tb : S125000x8x64.Idx → F .f32) : S16384x64.Idx → F .f32 := fun i =>
  if Oov (ext w (i 0).val) then T4.zf else tb (tIdx (ext w (i 0).val) (i 1))

/-- A subcore's words begin at 512 times its number. -/
theorem off1_val : k0_off1 L 0 = 512 * (pL L).val := by
  rw [k0_off1_eq, pL_val]
  show 1024 * (L 1).val + 512 * (L 0).val = _
  omega
/-- A subcore's rows begin at 512 times its number. -/
theorem off39_val : k0_off39 L 0 = 512 * (pL L).val := by
  rw [k0_off39_eq, pL_val]
  show 1024 * (L 1).val + 512 * (L 0).val = _
  omega
/-- A subcore's rows begin at column zero. -/
theorem off39_col : k0_off39 L 1 = 0 := by rw [k0_off39_eq]; rfl

/-- What a subcore reads of its words is its stretch of the sequence. -/
theorem wM_reads (w : S16384.Idx → BitVec 32) (i : S512.Idx) :
    (wM L).view.read (Elt F) (w : Buf (Elt F) ((wM L).view.loc (thr d L))) i = words w (pL L) (i 0).val := by
  have hi : (i 0).val < 512 := (i 0).isLt
  have hp := (pL L).isLt
  show w ((Rect.unit (s := S16384) (k0_off1 L) S512.size (k0_off1_inb L)).emb i) = _
  unfold words ext
  rw [dif_pos (by omega)]
  congr 1
  funext a
  match a with
  | 0 => exact Fin.ext ((emb_val (s := S16384) _ S512.size _ i 0).trans (congrArg (· + (i 0).val) (off1_val L)))

/-- The subcore's rows, written, are the result's. -/
theorem oM_writes (w : S16384.Idx → BitVec 32) (tb : S125000x8x64.Idx → F .f32) (fo : S16384x64.Idx → F .f32) (i : S16384x64.Idx) (hi : i ∈ (oM L).view.set) :
    (oM L).view.write (Elt F) fo (T4.fin (words w (pL L)) (G tb (words w (pL L)))) Finset.univ i = res w tb i := by
  obtain ⟨y, -, rfl⟩ := Finset.mem_map.mp hi
  refine (View.write_emb_of_mem (Val := Elt F) (v := (oM L).view) fo _ (Finset.mem_univ y)).trans ?_
  have e0 : (((oM L).view.emb y : S16384x64.Idx) 0).val = 512 * (pL L).val + (y 0).val :=
    (emb_val (s := S16384x64) _ S512x64.size (k0_off39_inb L) y 0).trans (congrArg (· + (y 0).val) (off39_val L))
  have e1 : ((oM L).view.emb y : S16384x64.Idx) 1 = y 1 :=
    Fin.ext ((emb_val (s := S16384x64) _ S512x64.size (k0_off39_inb L) y 1).trans ((congrArg (· + (y 1).val) (off39_col L)).trans (Nat.zero_add _)))
  show (if Oov (words w (pL L) (y 0).val) then T4.zf else tb (tIdx (words w (pL L) (y 0).val) (y 1))) = _
  unfold res words
  rw [e0, e1]

/-! ## The subcore's program from what it is dealt -/

abbrev wLoc (d : Dev nD) : Loc nD τ sig := (SparseCore.T d).loc main_arg0
abbrev xLoc (d : Dev nD) : Loc nD τ sig := (SparseCore.T d).loc main_arg1
abbrev tLoc (d : Dev nD) : Loc nD τ sig := (SparseCore.T d).loc main_v0
abbrev oLoc (d : Dev nD) : Loc nD τ sig := (SparseCore.T d).loc main_v1

/-- Part `i`'s share of the table. -/
abbrev tq (i : Fin 32) : PosShare TreeShare := Transfers.shareTok fullShare 32 i

abbrev wRow (d : Dev nD) (w : S16384.Idx → BitVec 32) (i : Fin 32) : sProp 𝕄 := wLoc d ↦[wRowSet i]{fullShare} (w : Buf (Elt F) (wLoc d))
abbrev tSh (d : Dev nD) (tb : S125000x8x64.Idx → F .f32) (i : Fin 32) : sProp 𝕄 := tLoc d ↦{tq i} (tb : Buf (Elt F) (tLoc d))
abbrev oRow (d : Dev nD) (f : S16384x64.Idx → F .f32) (i : Fin 32) : sProp 𝕄 := oLoc d ↦[oRowSet i]{fullShare} (f : Buf (Elt F) (oLoc d))

/-- What part `i` is dealt, and what it brings back. -/
abbrev Go (d : Dev nD) (w : S16384.Idx → BitVec 32) (tb : S125000x8x64.Idx → F .f32) (f : S16384x64.Idx → F .f32) (i : Fin 32) : sProp 𝕄 :=
  iprop(wRow (F := F) d w i ∗ tSh d tb i ∗ oRow d f i)
abbrev Td (d : Dev nD) (w : S16384.Idx → BitVec 32) (tb : S125000x8x64.Idx → F .f32) (i : Fin 32) : sProp 𝕄 :=
  iprop(wRow (F := F) d w i ∗ oRow d (res w tb) i)

/-- A subcore's words, named by the view it copies from and by its part. -/
theorem wRow_eq (w : S16384.Idx → BitVec 32) :
    ((wM L).view.loc (thr d L) ↦[(wM L).view.set]{fullShare} (w : Buf (Elt F) ((wM L).view.loc (thr d L))) : sProp 𝕄) = wRow (F := F) d w (pL L) := by
  rw [wset]
/-- A subcore's rows, named by the view it copies to and by its part. -/
theorem oRow_eq (f : S16384x64.Idx → F .f32) :
    ((oM L).view.loc (thr d L) ↦[(oM L).view.set]{fullShare} (f : Buf (Elt F) ((oM L).view.loc (thr d L))) : sProp 𝕄) = oRow d f (pL L) := by
  rw [oset]

/-- A subcore's program from what it owns: its rows end as the result's. -/
theorem tile_body (hF : (K (F := F)).Facts) (w : S16384.Idx → BitVec 32) (hw : ∀ i, (w i).toNat < 2 ^ 31) (tb : S125000x8x64.Idx → F .f32)
    (fo : S16384x64.Idx → F .f32) (O : CellTallies nD τ sig (HIx 1)) (W : Waits sig (HIx 1)) (hO : ∀ g, O g none = 0) :
    iprop(levAts (K (F := F)).L (K (F := F)).lev ∗ emp ∗ Go d w tb fo (pL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_embed_body L wV (Memref.isWhole_whole _) tV (Memref.isWhole_whole _) oV (Memref.isWhole_whole _)
            s5 (Memref.isWhole_whole _) s6 (Memref.isWhole_whole _) s7 (Memref.isWhole_whole _) s8 (Memref.isWhole_whole _) s9 (Memref.isWhole_whole _)
            cc0_scratch5 cc0_scoped0 cc0_scoped1)
          fun _ => iprop(Td d w tb (pL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hc := body_core d L tb (words w (pL L)) O W (fun p => ext_lt hw _) w (wM_reads (F := F) L w) fo
  rw [(K (F := F)).scopedBufs_V hF d (cV L) (jV L), SparseCore.Cfg.scopedSems0_V (Val := Elt F) d (cV L) (jV L), ownSems0_eq, ownBufs_eq]
  iintro ⟨#Hlv, -, ⟨Hw, Ht, Ho⟩, ⟨H5, H6, H7, H8, H9, HB⟩, ⟨Hv0, Hv1, HC, HS⟩, HO⟩
  ihave Hmw := (show levAts (K (F := F)).L (K (F := F)).lev ⊢ Transfers.MayWaits (V d (cV L) (jV L)) (none : HIx 1) O from
    (K (F := F)).mayWaits_none (thr := V d (cV L) (jV L)) hO) $$ Hlv
  ihave Hw := (Entails.of_eq (wRow_eq (F := F) d L w).symm) $$ Hw
  ihave Ho := (Entails.of_eq (oRow_eq (F := F) d L fo).symm) $$ Ho
  iapply (wp_wand_r frame (wpE (defs₀ (F := F)) 𝒱₀ (thr d L) none) Set.univ)
  isplitl [Hmw HO Hw Ht Ho H5 H6 H7 H8 H9 Hv0 Hv1 HC]
  · iapply hc
    isplitl [Hmw]; · iexact Hmw
    isplitl [HO]
    · unfold T3.Wts
      iexists W
      isplitr
      · ipureintro; exact fun p hp => Or.inl hp
      · iexact HO
    isplitl [Hw]; · iexact Hw
    isplitl [Ht]
    · unfold Tbl
      iexists _; iexact Ht
    isplitl [Ho]; · iexact Ho
    unfold Scratch
    isplitl [H5]; · iexact H5
    isplitl [H6]; · iexact H6
    isplitl [H7]; · iexact H7
    isplitl [H8]; · iexact H8
    isplitl [H9]; · iexact H9
    isplitl [HC]; · iexact HC
    isplitl [Hv0] <;> iassumption
  unfold Scratch T3.Wts
  iintro %_ ⟨HO, Hw, Ho, H5, H6, H7, H8, H9, HC, Hv0, Hv1⟩
  isplitl [Hw Ho]
  · isplitl [Hw]
    · iapply (Entails.of_eq (wRow_eq (F := F) d L w)); iexact Hw
    iapply (Entails.of_eq (oRow_eq (F := F) d L (res w tb)))
    iapply (Entails.of_eq (pointsTo_congr fun i hi => oM_writes (F := F) L w tb fo i hi))
    iexact Ho
  isplitl [H5 H6 H7 H8 H9 HB]
  · isplitl [H5]; · iexact H5
    isplitl [H6]; · iexact H6
    isplitl [H7]; · iexact H7
    isplitl [H8]; · iexact H8
    isplitl [H9] <;> iassumption
  isplitl [HC Hv0 Hv1 HS]
  · isplitl [Hv0]; · iexact Hv0
    isplitl [Hv1]; · iexact Hv1
    isplitl [HC] <;> iassumption
  iexact HO

end Cert.Proof.Owned

end
-- ==== Proof.Launch.lean ====
module

public import proofs.«01_k».proof.Proof.Owned

/-! The launch: what each core and each subcore is dealt, how the whole arrays split into it and come back together, the
host's reshape before it, and the run of the whole program over any float values, with the result it leaves. -/

@[expose] public section

noncomputable section

namespace Cert.Proof.Launch

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic
open Cert.Proof.Lanes Cert.Proof.Setup Cert.Proof.Rows Cert.Proof.Owned

variable {F : FTy → Type} [FloatOps F]

local notation "𝕄" => MT nD τ sig (HIx 1) (Elt F) ℕ UU ℕ

variable (m : (ℓ : Loc nD τ sig) → Buf (Elt F) ℓ) (ρ : Dev nD → PrngReg)

/-! ## The table reshaped, and what is dealt -/

abbrev w' : DevRef τ sig := Proc.devRef .tc (main_arg0 : Ref sig .tc)
abbrev x' : DevRef τ sig := Proc.devRef .tc (main_arg1 : Ref sig .tc)
abbrev t' : DevRef τ sig := Proc.devRef .tc (main_v0 : Ref sig .tc)
abbrev o' : DevRef τ sig := Proc.devRef .tc (main_v1 : Ref sig .tc)

abbrev opR : HloOp τ sig (Elt F) := StableHlo.reshape main_arg1 main_v0 (rfl : (.f32 : EltTy) = .f32) shapeCasts_S1000000x64_S125000x8x64

/-- The arrays' contents at the launch, as the host operation takes them. -/
def V0 (d : Dev nD) : Valuation τ sig (Elt F) := fun b => m (d, b)

/-- The words at the launch, the table reshaped, and the result's array at the launch. -/
def wd (d : Dev nD) : S16384.Idx → BitVec 32 := m (wLoc d)
def tabs (d : Dev nD) : S125000x8x64.Idx → F .f32 := shapeCast S125000x8x64 (m (xLoc d) : S1000000x64.Idx → F .f32) shapeCasts_S1000000x64_S125000x8x64
def out0 (d : Dev nD) : S16384x64.Idx → F .f32 := m (oLoc d)

/-- A core is dealt its sixteen parts, each subcore its own. -/
def P : (K (F := F)).Pay (nD := nD) (Val := Elt F) (Name := ℕ) (U := UU) where
  st := fun q d c => match q with
    | 0 => bigSep Finset.univ fun i : Fin 16 => Go d (wd m d) (tabs m d) (out0 m d) (part (Fin.cast nCore_zero c) i)
  dn := fun q d c => match q with
    | 0 => bigSep Finset.univ fun i : Fin 16 => Td d (wd m d) (tabs m d) (part (Fin.cast nCore_zero c) i)
  go := fun q d c i => match q with
    | 0 => Go d (wd m d) (tabs m d) (out0 m d) (part (Fin.cast nCore_zero c) (Fin.cast nSub_zero i))
  td := fun q d c i => match q with
    | 0 => Td d (wd m d) (tabs m d) (part (Fin.cast nCore_zero c) (Fin.cast nSub_zero i))
  x := fun _ _ => iprop(emp)

instance P_storable : (P (F := F) m).IsStorable where
  st q d c := match q with
    | 0 => (inferInstance : BI.Storable (upEmb : UEmb _ 𝕄) (bigSep Finset.univ fun i : Fin 16 => Go d (wd m d) (tabs m d) (out0 m d) (part (Fin.cast nCore_zero c) i)))
  dn q d c := match q with
    | 0 => (inferInstance : BI.Storable (upEmb : UEmb _ 𝕄) (bigSep Finset.univ fun i : Fin 16 => Td d (wd m d) (tabs m d) (part (Fin.cast nCore_zero c) i)))
  go q d c i := match q with
    | 0 => (inferInstance : BI.Storable (upEmb : UEmb _ 𝕄) (Go d (wd m d) (tabs m d) (out0 m d) (part (Fin.cast nCore_zero c) (Fin.cast nSub_zero i))))
  td q d c i := match q with
    | 0 => (inferInstance : BI.Storable (upEmb : UEmb _ 𝕄) (Td d (wd m d) (tabs m d) (part (Fin.cast nCore_zero c) (Fin.cast nSub_zero i))))

/-- What the kernel asks of its words: none is negative. -/
def PreOK : Prop := ∀ (d : Dev nD) (i : S16384.Idx), (wd m d i).toNat < 2 ^ 31

/-! ## A subcore's program, as the launch runs it -/

def coordsV (c : Fin (grid0.bound 0)) (s : Fin (grid0.bound 1)) : grid0.Coords :=
  fun | 0 => c | 1 => s | ⟨_ + 2, h⟩ => absurd h (Nat.not_lt.2 (Nat.le_add_left _ _))

/-- A subcore's procedure is the kernel's body at its own core and subcore numbers. -/
theorem defs₀_vector (c : Fin τ.nSC) (s : Fin τ.nSub) :
    defs₀ (F := F) (.scVector c s) 0 ()
      = SparseCore.onTile hcore0 hsub0 (fun c s => cc0__sc_embed_body (coordsV c s) wV (Memref.isWhole_whole _) tV (Memref.isWhole_whole _) oV (Memref.isWhole_whole _)
          s5 (Memref.isWhole_whole _) s6 (Memref.isWhole_whole _) s7 (Memref.isWhole_whole _) s8 (Memref.isWhole_whole _) s9 (Memref.isWhole_whole _)
          cc0_scratch5 cc0_scoped0 cc0_scoped1) ⟨⟩ c s := rfl

/-- What a subcore has waited for, weakened to what the launch asks. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Each subcore's program runs from what it is dealt to what it gives back. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (wd m d) (hpre d) (tabs m d) (out0 m d) O W hO).trans (wp_mono frame _ _ fun _ => obl_post)

/-! ## The whole arrays and the parts -/

/-- A subcore's words are one of 32 equal parts. -/
theorem wRowSet_eq (i : Fin 32) : wRowSet i = (Rect.part (s := S16384) (a₀ := 0) wdiv i).set := by
  show ((View.whole (main_arg0_scv : Ref sig .scVector)).slice _).set = _
  rw [View.set_slice]; exact Finset.map_refl
/-- A subcore's rows of the result are one of 32 equal parts. -/
theorem oRowSet_eq (i : Fin 32) : oRowSet i = (Rect.part (s := S16384x64) (a₀ := 0) odiv i).set := by
  show ((View.whole (main_v1_scv : Ref sig .scVector)).slice _).set = _
  rw [View.set_slice]; exact Finset.map_refl

/-- Two subcores' words are apart. -/
theorem wrows_disjoint : ∀ i ∈ (Finset.univ : Finset (Fin 32)), ∀ j ∈ (Finset.univ : Finset (Fin 32)), i ≠ j → Disjoint (wRowSet i) (wRowSet j) :=
  fun i _ j _ h => by rw [wRowSet_eq, wRowSet_eq]; exact Rect.part_disjoint wdiv h
/-- Two subcores' rows of the result are apart. -/
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
/-- The subcores' words are all the words. -/
theorem wrows_cover : (Finset.univ : Finset (Fin 32)).biUnion wRowSet = Finset.univ :=
  (Finset.biUnion_congr rfl fun i _ => wRowSet_eq i).trans (Rect.biUnion_part wdiv)
/-- The subcores' rows are all the rows of the result. -/
theorem orows_cover : (Finset.univ : Finset (Fin 32)).biUnion oRowSet = Finset.univ :=
  (Finset.biUnion_congr rfl fun i _ => oRowSet_eq i).trans (Rect.biUnion_part odiv)

/-- The three arrays whole. -/
abbrev wPts (d : Dev nD) (w : S16384.Idx → BitVec 32) : sProp 𝕄 := wLoc d ↦{fullShare} (w : Buf (Elt F) (wLoc d))
abbrev tPts (d : Dev nD) (tb : S125000x8x64.Idx → F .f32) : sProp 𝕄 := tLoc d ↦{fullShare} (tb : Buf (Elt F) (tLoc d))
abbrev oPts (d : Dev nD) (f : S16384x64.Idx → F .f32) : sProp 𝕄 := oLoc d ↦{fullShare} (f : Buf (Elt F) (oLoc d))
abbrev xPts (d : Dev nD) : sProp 𝕄 := xLoc d ↦{fullShare} m (xLoc d)

/-- The words are the 32 subcores' words together. -/
theorem wPts_rows (d : Dev nD) (w : S16384.Idx → BitVec 32) : wPts (F := F) d w = bigSep Finset.univ fun i : Fin 32 => wRow (F := F) d w i := by
  unfold wPts wRow
  rw [← pointsTo_biUnion Finset.univ (ℓ := wLoc d) wRowSet wrows_disjoint, wrows_cover]; try rfl
/-- The result's array is the 32 subcores' rows together. -/
theorem oPts_rows (d : Dev nD) (f : S16384x64.Idx → F .f32) : oPts d f = bigSep Finset.univ fun i : Fin 32 => oRow d f i := by
  unfold oPts oRow
  rw [← pointsTo_biUnion Finset.univ (ℓ := oLoc d) oRowSet orows_disjoint, orows_cover]; try rfl

/-- The parts by core and subcore. -/
def parts : Fin 2 × Fin 16 ≃ Fin 32 := (Equiv.prodComm (Fin 2) (Fin 16)).trans finProdFinEquiv

/-- A pair of a core and a subcore goes to that subcore's number. -/
theorem parts_apply (c : Fin 2) (i : Fin 16) : parts (c, i) = part c i := by
  apply Fin.ext
  show c.val + 2 * i.val = 2 * i.val + c.val
  omega

/-- Things of 32 subcores, taken core by core. -/
theorem bigSep_parts (Φ : Fin 32 → sProp 𝕄) :
    bigSep Finset.univ Φ = bigSep Finset.univ fun c : Fin 2 => bigSep Finset.univ fun i : Fin 16 => Φ (part c i) := by
  rw [bigSep_univ_equiv parts Φ, bigSep_univ_prod]
  exact bigSep_congr fun c _ => bigSep_congr fun i _ => congrArg Φ (parts_apply c i)

/-- The words, the table and the result's array, dealt out. -/
theorem deal (d : Dev nD) (w : S16384.Idx → BitVec 32) (tb : S125000x8x64.Idx → F .f32) (f : S16384x64.Idx → F .f32) :
    iprop(wPts (F := F) d w ∗ tPts d tb ∗ oPts d f) ⊢ bigSep Finset.univ fun i : Fin 32 => Go d w tb f i := by
  unfold Go
  rw [bigSep_sep', bigSep_sep', wPts_rows, oPts_rows]
  iintro ⟨Hw, Ht, Ho⟩
  ihave H := (Transfers.pointsTo_toks_split (ℓ := tLoc d) (S := Finset.univ) (f := (tb : Buf (Elt F) (tLoc d))) fullShare 32) $$ Ht
  icases H with ⟨-, Ht⟩
  isplitl [Hw]; · iexact Hw
  isplitl [Ht]; · iexact Ht
  iexact Ho

/-- The words and the result, collected. -/
theorem collect (d : Dev nD) (w : S16384.Idx → BitVec 32) (tb : S125000x8x64.Idx → F .f32) :
    (bigSep Finset.univ fun i : Fin 32 => Td d w tb i) = iprop(wPts (F := F) d w ∗ oPts d (res w tb)) := by
  unfold Td
  rw [bigSep_sep', wPts_rows, oPts_rows]

/-- Things of the call's subcores are things of sixteen subcores. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- What a core is dealt splits into what its subcores are dealt, and what they give back is what the core gives back. -/
theorem vecSplit : (K (F := F)).VecSplit' (P m) 0 := by
  intro d c
  show (bigSep Finset.univ fun i : Fin 16 => Go d (wd m d) (tabs m d) (out0 m d) (part (Fin.cast nCore_zero c) i)) ⊢ |={Set.univ}=> iprop(
      (bigSep Finset.univ fun i : Fin ((K (F := F)).nSub 0) => Go d (wd m d) (tabs m d) (out0 m d) (part (Fin.cast nCore_zero c) (Fin.cast nSub_zero i)))
      ∗ ((bigSep Finset.univ fun i : Fin ((K (F := F)).nSub 0) => Td d (wd m d) (tabs m d) (part (Fin.cast nCore_zero c) (Fin.cast nSub_zero i)))
          -∗ bigSep Finset.univ fun i : Fin 16 => Td d (wd m d) (tabs m d) (part (Fin.cast nCore_zero c) i)))
  rw [bigSep_tasks (F := F) (fun i => Go d (wd m d) (tabs m d) (out0 m d) (part (Fin.cast nCore_zero c) i)),
    bigSep_tasks (F := F) (fun i => Td d (wd m d) (tabs m d) (part (Fin.cast nCore_zero c) i))]
  iintro H; imodintro
  isplitl [H]; · iexact H
  iintro H; iexact H

/-- What the cores are dealt together is what the 32 subcores are dealt. -/
theorem st0_eq (d : Dev nD) : (bigSep Finset.univ fun c : Fin ((K (F := F)).nCore 0) => (P m).st 0 d c)
    = bigSep Finset.univ fun i : Fin 32 => Go d (wd m d) (tabs m d) (out0 m d) i := by
  rw [bigSep_parts]; rfl
/-- What the cores give back together is what the 32 subcores give back. -/
theorem dn0_eq (d : Dev nD) : (bigSep Finset.univ fun c : Fin ((K (F := F)).nCore 0) => (P m).dn 0 d c)
    = bigSep Finset.univ fun i : Fin 32 => Td d (wd m d) (tabs m d) i := by
  rw [bigSep_parts]; rfl

/-! ## The launch's own ghost state -/

def u₀ : UU := (initOf (K (F := F)).hsCells (K (F := F)).hsToks, 1)

/-- Nothing, many times over, is nothing. -/
theorem bigSep_emp' {I : Type} (s : Finset I) : (bigSep s fun _ => iprop(emp)) = (iprop(emp) : sProp 𝕄) := bigSep_emp_const s

/-- The launch's own ghost state splits into its parts. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's program -/

def S4 : Finset (DevRef τ sig) := {w', x', t', o'}

/-- The four arrays held are the four arrays, one after another. -/
theorem held_S4 (d : Dev nD) (W : Valuation τ sig (Elt F)) :
    (held (T d) S4 W : sProp 𝕄) = iprop((wLoc d ↦{fullShare} W w') ∗ (xLoc d ↦{fullShare} W x') ∗ (tLoc d ↦{fullShare} W t') ∗ oLoc d ↦{fullShare} W o') := by
  unfold held S4
  rw [SparseCore.bigSep_insert' (by decide), SparseCore.bigSep_insert' (by decide), SparseCore.bigSep_insert' (by decide), bigSep_singleton]

/-- The host's buffers are the four arrays. -/
theorem unscopedBufs_eq (d : Dev nD) (W : (b : Ref sig .tc) → Buf (Elt F) ((d.tc : Thread nD τ).loc b)) :
    (unscopedBufs d W : sProp 𝕄) = iprop((wLoc d ↦{fullShare} W main_arg0) ∗ (xLoc d ↦{fullShare} W main_arg1) ∗ (tLoc d ↦{fullShare} W main_v0) ∗ oLoc d ↦{fullShare} W main_v1) := by
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]

/-- The host's buffers at the launch are the four arrays at the launch's contents. -/
theorem unscoped_held (d : Dev nD) : (unscopedBufs d (fun b => m ((SparseCore.T d).loc b)) : sProp 𝕄) = held (T d) S4 (V0 m d) := by
  rw [unscopedBufs_eq, held_S4]; rfl

/-- The reshape touches the table and its reshaped copy alone. -/
theorem hR : (opR (F := F)).bufs ⊆ S4 := show ({x', t'} : Finset (DevRef τ sig)) ⊆ S4 by decide

/-- After the reshape: the table reshaped, the other arrays as they were. -/
theorem held_R (d : Dev nD) :
    (held (T d) S4 ((opR (F := F)).result (V0 m d)) : sProp 𝕄) = iprop(wPts (F := F) d (wd m d) ∗ xPts m d ∗ tPts d (tabs m d) ∗ oPts d (out0 m d)) := by
  rw [held_S4,
    (opR (F := F)).result_of_not_mem (V0 m d) (b := w') (show w' ∉ ({t'} : Finset (DevRef τ sig)) by decide),
    (opR (F := F)).result_of_not_mem (V0 m d) (b := x') (show x' ∉ ({t'} : Finset (DevRef τ sig)) by decide),
    (opR (F := F)).result_of_not_mem (V0 m d) (b := o') (show o' ∉ ({t'} : Finset (DevRef τ sig)) by decide),
    show (opR (F := F)).result (V0 m d) t' = tabs m d from StableHlo.reshape_result ..]
  rfl

/-- What the program leaves: the words and the table as they were, the result. -/
abbrev FIN (d : Dev nD) : sProp 𝕄 := iprop(wPts (F := F) d (wd m d) ∗ xPts m d ∗ oPts d (res (wd m d) (tabs m d)))

/-- The host's program: the reshape, the call, and the arrays with what they hold after it. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opR) (S := S4) hR (V := V0 m d)) $$ [Hb Hheld]
  · isplitl [Hb]; · iexact Hb
    iexact Hheld
  iintro ⟨Hb, Hheld⟩
  rw [wp_ret]; imodintro
  ihave Hh := (Entails.of_eq (held_R m d)) $$ Hheld
  icases Hh with ⟨Hw, Hx, Ht, Ho⟩
  iapply ((K (F := F)).wp_run (D (F := F)) 𝒱 (EH := EH) (P := P m) κ d 0) $$ [Hst Hw Hx Ht Ho Hb Hts]
  isplitr; · iexact Hctx
  isplitl [Hst]; · iexact Hst
  isplitl [Hw Ht Ho]
  · rw [st0_eq]
    iapply (deal d (wd m d) (tabs m d) (out0 m d))
    isplitl [Hw]; · iexact Hw
    isplitl [Ht] <;> iassumption
  iintro ⟨Hst, Hdn⟩
  ihave Hdn' := (Entails.of_eq ((dn0_eq m d).trans (collect d (wd m d) (tabs m d)))) $$ Hdn
  icases Hdn' with ⟨Hw, Ho⟩
  imodintro
  isplitl [Hst]; · iexact Hst
  isplitr [Hb Hts]
  · isplitl [Hw]; · iexact Hw
    isplitl [Hx] <;> iassumption
  isplitl [Hb] <;> iassumption

/-- What the memory at the end holds on device `d`. -/
def fq (d : Dev nD) (s' : Phys nD τ sig (Elt F)) : Prop :=
  s'.mem.mem (wLoc d) = m (wLoc d) ∧ s'.mem.mem (xLoc d) = m (xLoc d) ∧ s'.mem.mem (oLoc d) = (res (wd m d) (tabs m d) : Buf (Elt F) (oLoc d))

set_option maxRecDepth 16384 in
/-- What the host holds at the end says what the memory holds. -/
theorem hfin (d : Dev nD) (s' : Phys nD τ sig (Elt F)) : iprop(FIN m d ∗ SI s') ⊢ (⌜fq m d s'⌝ : sProp 𝕄) := by
  iintro ⟨⟨Hw, Hx, Ho⟩, HSI⟩
  ihave H := (persistent_entails_right (SI_pointsTo_agree (st := s') (ℓ := wLoc d) (I := Finset.univ) (q := fullShare) (f := (wd m d : Buf (Elt F) (wLoc d))))) $$ [HSI Hw]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := oLoc d) (I := Finset.univ) (q := fullShare) (f := (res (wd m d) (tabs m d) : Buf (Elt F) (oLoc d)))) $$ [HSI Ho]
  · isplitl [HSI] <;> iassumption
  icases H with %h3
  ipureintro
  exact ⟨funext fun i => h1 i (Finset.mem_univ i), funext fun i => h2 i (Finset.mem_univ i), funext fun i => h3 i (Finset.mem_univ i)⟩

/-! ## The program's run -/

/-- The words and the table unchanged, the result as stated, on every device; the counters at zero. -/
def QC : PUnit × MemSt nD τ sig (Elt F) → Prop := fun r =>
  (∀ c : Dev nD, r.2.mem (wLoc c) = m (wLoc c) ∧ r.2.mem (xLoc c) = m (xLoc c) ∧ r.2.mem (oLoc c) = (res (wd m c) (tabs m c) : Buf (Elt F) (oLoc c)))
    ∧ r.2.sem = fun _ => 0

/-- Every run of the program, over any float values and from words none of which is negative, ends so. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Launch

end
-- ==== Proof.Value.lean ====
module

public import proofs.«01_k».proof.Proof.Launch
public import proofs.«01_k».proof.Proof.Gen.ReferenceIdeal
public import proofs.«01_k».proof.Proof.Gen.ReferenceIdeal.Run
public import proofs.«01_k».proof.Proof.Gen.Pre_in_range
public import Idealize.ShloMosaic.Lib.ReduceAll
public import Idealize.ShloMosaic.Lib.WordCmp
public import Idealize.ShloMosaic.Lib.ValueIdxCore

/-! The reference's result, read at an index, is the kernel's; and what the precondition says of the words. -/

@[expose] public section

noncomputable section

namespace Cert.Proof.Value

open Cert.ReferenceIdeal Cert.ReferenceIdeal.Gen
open Idealize.ShloMosaic Idealize.ShloMosaic.ValueIdx
open Cert.Proof.Lanes Cert.Proof.Rows Cert.Proof.Owned Cert.Proof.Launch

variable {F : FTy → Type} [FloatOps F]

/-! ## Words -/

/-- A word that isn't negative is the same number read as signed or unsigned. -/
theorem toInt_small {w : BitVec 32} (h : w.toNat < 2 ^ 31) : w.toInt = w.toNat := by
  rw [BitVec.toInt_eq_toNat_cond, if_pos (by omega)]

/-- The word that is looked up isn't negative. -/
theorem safe_small (w : BitVec 32) : (safe w).toNat < 2 ^ 31 := by
  have := safe_lt w
  omega

/-- Below a million, a word not negative is in the vocabulary; else it is out of it. -/
theorem slt_vocab {w : BitVec 32} (h : w.toNat < 2 ^ 31) : IntOp.cmpi .slt w 1000000#32 = if Oov w then 0#1 else 1#1 := by
  rw [WordCmp.cmpi_slt_of_lt h (by decide)]
  unfold Oov
  rw [show (1000000#32).toNat = 1000000 from rfl]
  split
  · rw [decide_eq_false (by omega)]; rfl
  · rw [decide_eq_true (by omega)]; rfl

/-- A word that isn't negative is not below zero. -/
theorem slt_zero {w : BitVec 32} (h : w.toNat < 2 ^ 31) : IntOp.cmpi .slt w 0#32 = 0#1 := by
  rw [WordCmp.cmpi_slt_of_lt h (by decide), decide_eq_false (show ¬ w.toNat < (0#32).toNat from Nat.not_lt_zero _)]; rfl
/-- A word that isn't negative is at least zero. -/
theorem sge_zero {w : BitVec 32} (h : w.toNat < 2 ^ 31) : IntOp.cmpi .sge w 0#32 = 1#1 := by
  rw [WordCmp.cmpi_sge_of_lt h (by decide), decide_eq_true (show (0#32).toNat ≤ w.toNat from Nat.zero_le _)]; rfl
/-- The word that is looked up is at most the last of the vocabulary. -/
theorem sle_last (w : BitVec 32) : IntOp.cmpi .sle (safe w) 999999#32 = 1#1 := by
  rw [WordCmp.cmpi_sle_of_lt (safe_small w) (by decide), decide_eq_true (show (safe w).toNat ≤ (999999#32).toNat from Nat.le_of_lt_succ (safe_lt w))]; rfl

/-! ## The arrays the reference computes -/

/-- The word's place. -/
def at1 (q : Fin 16384) : S16384.Idx := fun a => match a with | 0 => q
def at2 (q : Fin 16384) : S16384x1.Idx := fun a => match a with | 0 => q | 1 => (0 : Fin 1)

/-- An index of the words is its one coordinate. -/
theorem at1_eq (i : S16384.Idx) : i = at1 (i 0) := by
  funext a; obtain rfl := Fin.eq_zero a; rfl

variable (w : IVec S16384 32) (hw : ∀ i, (w i).toNat < 2 ^ 31) (tbl : S1000000x64.Idx → F .f32)

/-- Which words are in the vocabulary. -/
def inV : IVec S16384 1 := cmpi .slt w (broadcastInDim S16384 ![] bcast_S_S16384 (constantI S_ 32 1000000#32))
/-- The words, zero for those out of it. -/
def sel : IVec S16384 32 := select (inV w) w (broadcastInDim S16384 ![] bcast_S_S16384 (id (constantI S_ 32 0#32)))
/-- The rows asked for, a negative one counted from the end. -/
def rowOf : IVec S16384 32 := select (cmpi .slt (sel w) (broadcastInDim S16384 ![] bcast_S_S16384 (constantI S_ 32 0#32)))
  (addi (sel w) (broadcastInDim S16384 ![] bcast_S_S16384 (constantI S_ 32 1000000#32))) (sel w)
/-- The rows as a column. -/
def col : IVec S16384x1 32 := broadcastInDim S16384x1 ![0] bcast_S16384_S16384x1_0 (rowOf w)
/-- Which rows the table has. -/
def okRow : IVec S16384x1 1 := andi (cmpi .sge (col w) (broadcastInDim S16384x1 ![] bcast_S_S16384x1 (constantI S_ 32 0#32)))
  (cmpi .sle (col w) (broadcastInDim S16384x1 ![0, 1] bcast_S1x1_S16384x1_0_1 (broadcastInDim S1x1 ![1] bcast_S1_S1x1_1 (constantI S1 32 999999#32))))
/-- The rows taken from the table, not-a-number where the table has none. -/
def taken : S16384x64.Idx → F .f32 :=
  select (broadcastInDim S16384x64 ![0] bcast_S16384_S16384x64_0 (Host.reduce IntOp.andi (okRow w) (constantI S_ 1 1#1) reducesTo_S16384x1_S16384_d1 h_S_))
    (Host.gather gather_S1000000x64_S16384x1_S16384x64_1_0_n_n_0_1_164 tbl (col w))
    (broadcastInDim S16384x64 ![] bcast_S_S16384x64 (constant S_ .f32 0x7FC00000#32))
/-- The reference's result. -/
def refVal : S16384x64.Idx → F .f32 :=
  select (broadcastInDim S16384x64 ![0, 1] bcast_S16384x1_S16384x64_0_1 (broadcastInDim S16384x1 ![0] bcast_S16384_S16384x1_0 (inV w)))
    (taken w tbl) (broadcastInDim S16384x64 ![] bcast_S_S16384x64 (constant S_ .f32 0x00000000#32))

/-- An array of a column reads as the array it came from. -/
theorem col_read {α : Type} (x : S16384.Idx → α) (i : S16384x1.Idx) : broadcastInDim S16384x1 ![0] bcast_S16384_S16384x1_0 x i = x (at1 (i 0)) := by
  unfold broadcastInDim
  congr 1
  funext a
  match a with
  | 0 => rfl
/-- A value of each word, broadcast along its row. -/
theorem row_read {α : Type} (x : S16384.Idx → α) (i : S16384x64.Idx) : broadcastInDim S16384x64 ![0] bcast_S16384_S16384x64_0 x i = x (at1 (i 0)) := by
  unfold broadcastInDim
  congr 1
  funext a
  match a with
  | 0 => rfl
/-- A column of values, broadcast along the rows. -/
theorem wide_read {α : Type} (x : S16384x1.Idx → α) (i : S16384x64.Idx) : broadcastInDim S16384x64 ![0, 1] bcast_S16384x1_S16384x64_0_1 x i = x (at2 (i 0)) := by
  unfold broadcastInDim
  congr 1
  funext a
  match a with
  | 0 => rfl
  | 1 => rfl

include hw in
/-- The reference's mark of a word in the vocabulary. -/
theorem inV_eq (i : S16384.Idx) : inV w i = if Oov (w i) then 0#1 else 1#1 := slt_vocab (hw i)

include hw in
/-- The reference's word to look up. -/
theorem sel_eq (i : S16384.Idx) : sel w i = safe (w i) := by
  show Scalar.select (inV w i) (w i) 0#32 = _
  rw [inV_eq w hw]
  unfold safe
  split <;> rfl

include hw in
/-- The row it takes: that word, which needs no wrapping. -/
theorem rowOf_eq (i : S16384.Idx) : rowOf w i = safe (w i) := by
  show Scalar.select (IntOp.cmpi .slt (sel w i) 0#32) (IntOp.addi (sel w i) 1000000#32) (sel w i) = _
  rw [sel_eq w hw, slt_zero (safe_small _)]; rfl

include hw in
/-- The gather's indices. -/
theorem col_eq (i : S16384x1.Idx) : col w i = safe (w (at1 (i 0))) := by
  unfold col
  rw [col_read, rowOf_eq w hw]

include hw in
/-- Every index is inside the table. -/
theorem okRow_eq (i : S16384x1.Idx) : okRow w i = 1#1 := by
  show IntOp.andi (IntOp.cmpi .sge (col w i) 0#32) (IntOp.cmpi .sle (col w i) 999999#32) = _
  rw [col_eq w hw, sge_zero (safe_small _), sle_last]; rfl

/-- Where row `q`, column `c` of the table lies. -/
def tAt (q : ℕ) (h : q < 1000000) (c : Fin 64) : S1000000x64.Idx := fun a => match a with
  | 0 => (⟨q, h⟩ : Fin 1000000)
  | 1 => c

/-- The gather takes, for each row of the result, the table's row of its index. -/
theorem gather_eq (idx : IVec S16384x1 32) (i : S16384x64.Idx) (q : ℕ) (h : q < 1000000) (hq : (idx (at2 (i 0))).toInt = q) :
    Host.gather gather_S1000000x64_S16384x1_S16384x64_1_0_n_n_0_1_164 tbl idx i = tbl (tAt q h (i 1)) := by
  unfold Host.gather
  congr 1
  funext a
  refine Fin.ext ?_
  show GatherDims.start gather_S1000000x64_S16384x1_S16384x64_1_0_n_n_0_1_164 i idx a + GatherDims.batchCoord gather_S1000000x64_S16384x1_S16384x64_1_0_n_n_0_1_164 i a
    + GatherDims.offCoord gather_S1000000x64_S16384x1_S16384x64_1_0_n_n_0_1_164 i a = _
  rw [GatherDims.batchCoord_eq_zero _ _ _ List.not_mem_nil, Nat.add_zero]
  match a with
  | 0 =>
    rw [GatherDims.offCoord_eq_zero _ _ _ (fun h => ((GatherDims.mem_sKept _ _).mp h).1 (List.mem_singleton.mpr rfl)), Nat.add_zero]
    unfold GatherDims.start
    rw [dif_pos (show (0 : Fin 2) ∈ gather_S1000000x64_S16384x1_S16384x64_1_0_n_n_0_1_164.startIndexMap from List.mem_singleton.mpr rfl)]
    have hsi : gather_S1000000x64_S16384x1_S16384x64_1_0_n_n_0_1_164.siIdx i ⟨List.idxOf (0 : Fin 2) gather_S1000000x64_S16384x1_S16384x64_1_0_n_n_0_1_164.startIndexMap,
        List.idxOf_lt_length_iff.2 (List.mem_singleton.mpr rfl)⟩ = at2 (i 0) := by
      funext b; refine Fin.ext ?_
      match b with
      | 0 => rfl
      | 1 => rfl
    rw [hsi, hq]
    show min (q : ℤ).toNat 999999 = q
    omega
  | 1 =>
    unfold GatherDims.start
    rw [dif_neg (show (1 : Fin 2) ∉ gather_S1000000x64_S16384x1_S16384x64_1_0_n_n_0_1_164.startIndexMap from show (1 : Fin 2) ∉ [(0 : Fin 2)] by decide), Nat.zero_add]
    rfl

/-- The table reshaped, read at a word's place, is the table's row of the word. -/
theorem tab_read (x : BitVec 32) (c : Fin 64) :
    shapeCast Cert.KernelIdeal.S125000x8x64 tbl Cert.KernelIdeal.Facts₀.shapeCasts_S1000000x64_S125000x8x64 (tIdx x c) = tbl (tAt (safe x).toNat (safe_lt x) c) := by
  unfold shapeCast
  congr 1
  apply Shape.reshapeEquiv_eq_of_rowMajor
  rw [Shape.rowMajor_val_two, Shape.rowMajor_val_three]
  show (safe x).toNat * 64 + c.val = ((safe x).toNat / 8 * 8 + (safe x).toNat % 8) * 64 + c.val
  omega

include hw in
/-- The reference's result is the kernel's. -/
theorem refVal_eq : refVal w tbl = res w (shapeCast Cert.KernelIdeal.S125000x8x64 tbl Cert.KernelIdeal.Facts₀.shapeCasts_S1000000x64_S125000x8x64) := by
  funext i
  have e : ext w (i 0).val = w (at1 (i 0)) := dif_pos (i 0).isLt
  unfold refVal res
  rw [select_apply, wide_read, col_read, inV_eq w hw, e]
  show Scalar.select (if Oov (w (at1 (i 0))) then 0#1 else 1#1) _ _ = _
  split
  · rfl
  · refine Eq.trans ?_ (tab_read tbl (w (at1 (i 0))) (i 1)).symm
    rw [select_one]
    unfold taken
    rw [select_apply, row_read, Host.reduce_andi_one _ _ _ _ _ rfl (okRow_eq w hw), select_one]
    exact gather_eq tbl (col w) i _ (safe_lt _) ((congrArg BitVec.toInt (col_eq w hw _)).trans (toInt_small (safe_small _)))

/-! ## The precondition -/

/-- Words that pass the precondition are not negative. -/
theorem words_of_pre (e : Cert.Pre_in_range.fn w tbl = fun _ => 1#1) (i : S16384.Idx) : (w i).toNat < 2 ^ 31 := by
  have h := Host.reduce_andi_all _ _ _ _ _ (congrFun e (Shape.Idx.first Cert.Pre_in_range.Gen.h_S_)) i
  have h' : IntOp.cmpi .sge (w i) 0#32 = 1#1 := h
  have h0 : (0 : ℤ) ≤ (w i).toInt := IntOp.cmpi_sge.1 h'
  rw [BitVec.toInt_eq_toNat_cond] at h0
  have := (w i).isLt
  split at h0 <;> omega

end Cert.Proof.Value

end
-- ==== Proof.lean ====
/- The proof of every claim of `Cert.Claim` (proofs.«01_k».proof.Defs). The kernel's run is proved once, for the idealized
   program over any float values (Proof/Launch.lean, `run_main`), with the result it leaves: each row the table's row of its
   word, and zero where the word is out of the vocabulary. The program that was printed has the same text, so the same run
   is the run of both. The reference's run is the library's, its result read at an index (Proof/Value.lean, `refVal_eq`).
   The modules, from the bottom:
     Lanes    the running sum of the sixteen words' marks, and the scatter that follows it, as counting;
     Setup    the program as the launch sees it, and one step of a subcore on its own buffers;
     Pieces   what one access of a part of a buffer reads or leaves;
     T1..T4   the four loops: splitting the words and listing those out of the vocabulary, starting the copies of the
              rows, waiting for them, and zeroing the listed rows;
     Rows     the views of the rows, what a copy leaves, and the sixteen semaphores' batches of copies;
     Block    the block split into rows and put together again, and a plain copy with its wait;
     Tile     a subcore's whole program;
     Owned    what a subcore owns, and its program from that;
     Launch   the launch, the reshape before it, and the run;
     Value    the reference's result, and what the precondition says. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.Reference
public import proofs.«01_k».proof.Proof.Gen.ReferenceIdeal
public import proofs.«01_k».proof.Proof.Gen.ReferenceIdeal.Run
public import proofs.«01_k».proof.Proof.Gen.Pre_in_range
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem
open Cert.Proof.Launch Cert.Proof.Value Cert.Proof.Owned

section Any

variable {F : FTy → Type} [FloatOps F]

/-- The reference, over any float values and from words none of which is negative, leaves the kernel's result. -/
theorem run_ref (m : (ℓ : Loc Cert.ReferenceIdeal.nD Cert.ReferenceIdeal.τ Cert.ReferenceIdeal.sig) → Buf (Elt F) ℓ) (ρ : Dev Cert.ReferenceIdeal.nD → PrngReg)
    (hw : ∀ (c : Dev Cert.ReferenceIdeal.nD) (i : Cert.ReferenceIdeal.S16384.Idx),
      ((m ((c.tc : Thread Cert.ReferenceIdeal.nD Cert.ReferenceIdeal.τ).loc Cert.ReferenceIdeal.main_arg0) : IVec Cert.ReferenceIdeal.S16384 32) i).toNat < 2 ^ 31) :
    θ_run (Cert.ReferenceIdeal.defs (F := F)) (onTc (τ := Cert.ReferenceIdeal.τ) (Cert.ReferenceIdeal.main (F := F))) ⟨m, fun _ => 0, ρ⟩ fun r => ∀ c : Dev Cert.ReferenceIdeal.nD,
      r.2.mem ((c.tc : Thread Cert.ReferenceIdeal.nD Cert.ReferenceIdeal.τ).loc Cert.ReferenceIdeal.main_v6)
        = res (m ((c.tc : Thread Cert.ReferenceIdeal.nD Cert.ReferenceIdeal.τ).loc Cert.ReferenceIdeal.main_arg0))
            (shapeCast Cert.KernelIdeal.S125000x8x64
              (m ((c.tc : Thread Cert.ReferenceIdeal.nD Cert.ReferenceIdeal.τ).loc Cert.ReferenceIdeal.main_arg1) : Cert.ReferenceIdeal.S1000000x64.Idx → F .f32)
              Cert.KernelIdeal.Facts₀.shapeCasts_S1000000x64_S125000x8x64)
      ∧ r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1)
        = m ((c.tc : Thread Cert.ReferenceIdeal.nD Cert.ReferenceIdeal.τ).loc Cert.ReferenceIdeal.main_arg1) :=
  (θ_run Cert.ReferenceIdeal.defs _ _).mono (fun _ h c => ⟨(h c).1.trans (refVal_eq _ (hw c) _), (h c).2⟩) (Cert.ReferenceIdeal.Value.run m ρ)

end Any

/-! ## The frames -/

/-- The kernel runs to the end on every schedule, its arguments unchanged. -/
theorem frame_kernel : Cert.quiescent_Kernel := fun m ρ hpre =>
  (θ_run Cert.KernelIdeal.defs _ _).mono (fun _ h => ⟨fun c => ⟨(h.1 c).1, (h.1 c).2.1⟩, h.2⟩)
    (run_main (F := Bits) m ρ fun d => words_of_pre _ _ (hpre d))

/-- The idealized kernel runs to the end on every schedule, its arguments unchanged. -/
theorem frame_ideal : Cert.quiescent_KernelIdeal := fun m ρ hpre =>
  (θ_run Cert.KernelIdeal.defs _ _).mono (fun _ h => ⟨fun c => ⟨(h.1 c).1, (h.1 c).2.1⟩, h.2⟩)
    (run_main (F := Ideal) m ρ fun d => words_of_pre _ _ (hpre d))

/-- The reference runs to the end, its arguments unchanged. -/
theorem frame_ref : Cert.quiescent_Reference := fun m ρ _ =>
  (θ_run Cert.ReferenceIdeal.defs _ _).mono (fun r h => ⟨fun c => (h c).2, sem_eq_zero_of_no_sems (by decide) r.2⟩) (Cert.ReferenceIdeal.Value.run (F := Bits) m ρ)

/-- The idealized reference runs to the end, its arguments unchanged. -/
theorem frame_refIdeal : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-! ## The values -/

section Any

variable {F : FTy → Type} [FloatOps F] [∀ e, Nonempty (Elt F e)]

/-- Over any float values, from the same arguments, no word negative, the kernel and the reference leave the same result,
    and their arguments as they were. -/
theorem same (m : (ℓ : Loc Cert.KernelIdeal.nD Cert.KernelIdeal.τ Cert.KernelIdeal.sig) → Buf (Elt F) ℓ) (g : Dev Cert.KernelIdeal.nD → PrngReg)
    (m' : (ℓ : Loc Cert.ReferenceIdeal.nD Cert.ReferenceIdeal.τ Cert.ReferenceIdeal.sig) → Buf (Elt F) ℓ) (g' : Dev Cert.ReferenceIdeal.nD → PrngReg) (hw : PreOK m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    ∃ (v0 : (c : Dev Cert.KernelIdeal.nD) → Buf (Elt F) ((c.tc : Thread Cert.KernelIdeal.nD Cert.KernelIdeal.τ).loc Cert.KernelIdeal.main_v1)),
      θ_run (Cert.KernelIdeal.defs (F := F)) (Cert.KernelIdeal.threads (F := F)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := F)) (onTc (τ := Cert.ReferenceIdeal.τ) (Cert.ReferenceIdeal.main (F := F))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)) := by
  have hw' : ∀ (c : Dev Cert.ReferenceIdeal.nD) (i : Cert.ReferenceIdeal.S16384.Idx),
      ((m' ((c.tc : Thread Cert.ReferenceIdeal.nD Cert.ReferenceIdeal.τ).loc Cert.ReferenceIdeal.main_arg0) : IVec Cert.ReferenceIdeal.S16384 32) i).toNat < 2 ^ 31 := fun c i => by
    rw [(hagree c).1]; exact hw c i
  refine ⟨fun c => res (wd m c) (tabs m c), ?_, ?_⟩
  · exact (θ_run Cert.KernelIdeal.defs _ _).mono (fun _ h c => ⟨(h.1 c).2.2, (h.1 c).1, (h.1 c).2.1⟩) (run_main m g hw)
  · refine (θ_run Cert.ReferenceIdeal.defs _ _).mono (fun _ h c => ⟨(h c).1.trans ?_, (h c).2⟩) (run_ref m' g' hw')
    rw [(hagree c).1, (hagree c).2]; rfl

end Any

/-- Over the extended reals the kernel and the reference leave the same array. -/
theorem algebraic : Cert.algebraic_KernelIdeal_ReferenceIdeal := fun m g m' g' hpre hagree =>
  same (F := Ideal) m g m' g' (fun d => words_of_pre _ _ (hpre d)) hagree

/-- Over the machine's words the kernel and the reference leave the same array. -/
theorem bitexact : Cert.bitexact_Kernel_Reference := fun m g m' g' hpre hagree =>
  same (F := Bits) m g m' g' (fun d => words_of_pre _ _ (hpre d)) hagree

/-- Every claim. -/
theorem claim : Cert.Claim :=
  ⟨Cert.Kernel.Gen.facts, Cert.KernelIdeal.Gen.facts, Cert.Reference.Gen.facts, Cert.ReferenceIdeal.Gen.facts, Cert.Pre_in_range.Gen.facts,
    frame_kernel, frame_ideal, frame_ref, fun m ρ _ => frame_ref m ρ trivial, frame_refIdeal, fun m ρ _ => frame_refIdeal m ρ trivial, trivial,
    algebraic, bitexact⟩

end Cert.Proof

end
